-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x1280 : Shape := ⟨3, ![4, 3072, 1280]⟩
abbrev S4x3072x10 : Shape := ⟨3, ![4, 3072, 10]⟩
abbrev S2816x1280 : Shape := ⟨2, ![2816, 1280]⟩
abbrev S22x10 : Shape := ⟨2, ![22, 10]⟩
abbrev S12288x1280 : Shape := ⟨2, ![12288, 1280]⟩
abbrev S12288x10 : Shape := ⟨2, ![12288, 10]⟩
abbrev S12288x1408 : Shape := ⟨2, ![12288, 1408]⟩
abbrev S12288x11 : Shape := ⟨2, ![12288, 11]⟩
abbrev S1024x1280 : Shape := ⟨2, ![1024, 1280]⟩
abbrev S1024x10 : Shape := ⟨2, ![1024, 10]⟩
abbrev S1024x1408 : Shape := ⟨2, ![1024, 1408]⟩
abbrev S1024x11 : Shape := ⟨2, ![1024, 11]⟩
abbrev S11x256x1280 : Shape := ⟨3, ![11, 256, 1280]⟩
abbrev S128x128 : Shape := ⟨2, ![128, 128]⟩
abbrev S1x1 : Shape := ⟨2, ![1, 1]⟩
abbrev S1x128x128 : Shape := ⟨3, ![1, 128, 128]⟩
abbrev S1024x128 : Shape := ⟨2, ![1024, 128]⟩
abbrev S1024x1 : Shape := ⟨2, ![1024, 1]⟩
abbrev S1x256x1280 : Shape := ⟨3, ![1, 256, 1280]⟩
abbrev S256x1280 : Shape := ⟨2, ![256, 1280]⟩
abbrev S1024x256 : Shape := ⟨2, ![1024, 256]⟩
abbrev S1024 : Shape := ⟨1, ![1024]⟩

abbrev nBuf : Space → Nat
  | .hbm => 8
  | .vmem => 11
  | .smem => 1
  | _ => 0

abbrev bufTy : (tb : Table) → Fin (tcTables nBuf tb) → BufTy
  | .hbm, ⟨0, _⟩ => ⟨S4x3072x1280, .fp8e4m3⟩
  | .hbm, ⟨1, _⟩ => ⟨S4x3072x10, .f32⟩
  | .hbm, ⟨2, _⟩ => ⟨S2816x1280, .fp8e4m3⟩
  | .hbm, ⟨3, _⟩ => ⟨S22x10, .f32⟩
  | .hbm, ⟨4, _⟩ => ⟨S12288x1280, .fp8e4m3⟩
  | .hbm, ⟨5, _⟩ => ⟨S12288x10, .f32⟩
  | .hbm, ⟨6, _⟩ => ⟨S12288x1408, .fp8e4m3⟩
  | .hbm, ⟨7, _⟩ => ⟨S12288x11, .f32⟩
  | .local _ .vmem, ⟨0, _⟩ => ⟨S1024x1280, .fp8e4m3⟩
  | .local _ .vmem, ⟨1, _⟩ => ⟨S1024x1280, .fp8e4m3⟩
  | .local _ .vmem, ⟨2, _⟩ => ⟨S1024x10, .f32⟩
  | .local _ .vmem, ⟨3, _⟩ => ⟨S1024x10, .f32⟩
  | .local _ .vmem, ⟨4, _⟩ => ⟨S2816x1280, .fp8e4m3⟩
  | .local _ .vmem, ⟨5, _⟩ => ⟨S1024x1408, .fp8e4m3⟩
  | .local _ .vmem, ⟨6, _⟩ => ⟨S1024x1408, .fp8e4m3⟩
  | .local _ .vmem, ⟨7, _⟩ => ⟨S1024x11, .f32⟩
  | .local _ .vmem, ⟨8, _⟩ => ⟨S1024x11, .f32⟩
  | .local _ .vmem, ⟨9, _⟩ => ⟨S11x256x1280, .bf16⟩
  | .local _ .vmem, ⟨10, _⟩ => ⟨S1024x1280, .bf16⟩
  | .local _ .smem, ⟨0, _⟩ => ⟨S22x10, .f32⟩
  | _, _ => ⟨S4x3072x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S22x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1408 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x11 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x3072x1280 : Shape := ⟨3, ![4, 3072, 1280]⟩
abbrev S4x3072x10 : Shape := ⟨3, ![4, 3072, 10]⟩
abbrev S2816x1280 : Shape := ⟨2, ![2816, 1280]⟩
abbrev S22x10 : Shape := ⟨2, ![22, 10]⟩
abbrev S12288x1280 : Shape := ⟨2, ![12288, 1280]⟩
abbrev S12288x10 : Shape := ⟨2, ![12288, 10]⟩
abbrev S12288x1408 : Shape := ⟨2, ![12288, 1408]⟩
abbrev S12288x11 : Shape := ⟨2, ![12288, 11]⟩
abbrev S12288x10x1 : Shape := ⟨3, ![12288, 10, 1]⟩
abbrev S12288x10x128 : Shape := ⟨3, ![12288, 10, 128]⟩
abbrev S22x1x10 : Shape := ⟨3, ![22, 1, 10]⟩
abbrev S22x128x10 : Shape := ⟨3, ![22, 128, 10]⟩
abbrev S2816x10 : Shape := ⟨2, ![2816, 10]⟩
abbrev S2816x10x1 : Shape := ⟨3, ![2816, 10, 1]⟩
abbrev S2816x10x128 : Shape := ⟨3, ![2816, 10, 128]⟩
abbrev S1408x1280 : Shape := ⟨2, ![1408, 1280]⟩
abbrev S12288x11x128 : Shape := ⟨3, ![12288, 11, 128]⟩
abbrev S12288x11x1 : Shape := ⟨3, ![12288, 11, 1]⟩
abbrev S1x1x247 : Shape := ⟨3, ![1, 1, 247]⟩
abbrev S12288x11x247 : Shape := ⟨3, ![12288, 11, 247]⟩

abbrev nBuf : Space → Nat
  | .hbm => 8
  | .vmem => 6
  | .smem => 0
  | _ => 0

abbrev bufTy : (tb : Table) → Fin (tcTables nBuf tb) → BufTy
  | .hbm, ⟨0, _⟩ => ⟨S4x3072x1280, .fp8e4m3⟩
  | .hbm, ⟨1, _⟩ => ⟨S4x3072x10, .f32⟩
  | .hbm, ⟨2, _⟩ => ⟨S2816x1280, .fp8e4m3⟩
  | .hbm, ⟨3, _⟩ => ⟨S22x10, .f32⟩
  | .hbm, ⟨4, _⟩ => ⟨S12288x1280, .fp8e4m3⟩
  | .hbm, ⟨5, _⟩ => ⟨S12288x10, .f32⟩
  | .hbm, ⟨6, _⟩ => ⟨S12288x1408, .fp8e4m3⟩
  | .hbm, ⟨7, _⟩ => ⟨S12288x11, .f32⟩
  | .local _ .vmem, ⟨0, _⟩ => ⟨S12288x1280, .fp8e4m3⟩
  | .local _ .vmem, ⟨1, _⟩ => ⟨S12288x10, .f32⟩
  | .local _ .vmem, ⟨2, _⟩ => ⟨S2816x1280, .fp8e4m3⟩
  | .local _ .vmem, ⟨3, _⟩ => ⟨S22x10, .f32⟩
  | .local _ .vmem, ⟨4, _⟩ => ⟨S12288x1408, .fp8e4m3⟩
  | .local _ .vmem, ⟨5, _⟩ => ⟨S12288x11, .f32⟩
  | _, _ => ⟨S4x3072x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1408 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
module

public import proofs.«01_k».proof.Proof.Gen.KernelIdeal.Skeleton
public import Idealize.ShloMosaic.PureOps.Ideal
/-!
  What the kernel computes from one tile: `x` is the dequantised block of activations (1024 rows) and `w` the
  dequantised gate and up rows of the tile (128 each). The printed body spells these eleven times, cut in different
  places; here the computation is written once.
-/
set_option maxRecDepth 16384

@[expose] public section
noncomputable section
open Idealize.ShloMosaic Idealize.ShloMosaic.TcCoe
namespace Cert.KernelIdeal.Val
open Cert.KernelIdeal Cert.KernelIdeal.Gen

/-- The gated activations of the tile. -/
def tileH (x : Vec Ideal S1024x1280 .bf16) (w : Vec Ideal S1x256x1280 .bf16) : FVec Ideal S1024x128 .f32 :=
  k0_pay275 x w

/-- The largest magnitude of every row of the tile. -/
def rowMax (h : FVec Ideal S1024x128 .f32) : FVec Ideal S1024x1 .f32 :=
  shapeCast S1024x1 (multiReduction .maximumf [1] S1024 (absf h) 0xFF800000#32 reduces_S1024x128_S1024 (.inl rfl) rfl)
    shapeCasts_S1024_S1024x1

/-- One step of the bisection: add `c` to the pattern where the value of the sum is still at most `a`. -/
def vstep (a : FVec Ideal S1024x1 .f32) (c : BitVec 32) (p : IVec S1024x1 32) : IVec S1024x1 32 :=
  select (cmpf .ole (bitcastToFloat .f32 (addi p (broadcast S1024x1 c))) a) (addi p (broadcast S1024x1 c)) p

/-- The steps of the bisection in order, starting at the pattern 0. -/
def vsteps (a : FVec Ideal S1024x1 .f32) : IVec S1024x1 32 :=
  [1073741824#32, 536870912#32, 268435456#32, 134217728#32, 67108864#32, 33554432#32, 16777216#32, 8388608#32,
    4194304#32, 2097152#32, 1048576#32, 524288#32, 262144#32, 131072#32, 65536#32, 32768#32, 16384#32, 8192#32,
    4096#32, 2048#32, 1024#32, 512#32, 256#32, 128#32, 64#32, 32#32, 16#32, 8#32, 4#32, 2#32, 1#32].foldl
    (fun p c => vstep a c p) (broadcast S1024x1 0#32)

/-- The pattern of the row maximum. -/
def bitsOf (a : FVec Ideal S1024x1 .f32) : IVec S1024x1 32 :=
  minsi (vsteps a) (broadcast S1024x1 2139095040#32)

/-- The pattern of the scale. -/
def scaleBits (a : FVec Ideal S1024x1 .f32) : IVec S1024x1 32 := k0_pay1 (bitsOf a) 2097153#32

/-- The scales of the tile's rows. -/
def tileScale (x : Vec Ideal S1024x1280 .bf16) (w : Vec Ideal S1x256x1280 .bf16) : FVec Ideal S1024x1 .f32 :=
  k0_pay3 (bitsOf (rowMax (tileH x w))) 2097153#32

/-- The codes of the tile. -/
def tileCodes (x : Vec Ideal S1024x1280 .bf16) (w : Vec Ideal S1x256x1280 .bf16) : FVec Ideal S1024x128 .fp8e4m3 :=
  k0_pay2 (tileH x w) (bitsOf (rowMax (tileH x w))) 2097153#32

end Cert.KernelIdeal.Val
-- ==== Proof.Patterns.lean ====
module

public import Idealize.ShloMosaic.Lib.TotalOrder
/-!
  The extended reals that the patterns of 32-bit floats denote, the pattern a bisection finds for a given value, and
  the least power of two whose product with the largest float below 448 exceeds the value.
-/

@[expose] public section
noncomputable section
open Idealize.ShloMosaic
open Idealize.ShloMosaic.TotalOrder
namespace Cert.Patterns

/-- The value of pattern `p`. -/
def val (p : ℕ) : EReal := Ideal.ofBits .f32 (BitVec.ofNat 32 p)

/-- The pattern of infinity. -/
abbrev INF : ℕ := 2139095040

/-- The value of a pattern, by the format's exponent and fraction widths. -/
theorem val_eq (p : ℕ) : val p = Ideal.ieee 8 23 (BitVec.ofNat 32 p) := rfl

/-- The exponent field of a pattern. -/
theorem expo_ofNat (p : ℕ) (h : p < 2 ^ 31) : expo 8 23 (BitVec.ofNat 32 p) = p / 2 ^ 23 := by
  rw [expo_eq, BitVec.toNat_ofNat]; omega

/-- The fraction field of a pattern. -/
theorem frac_ofNat (p : ℕ) (h : p < 2 ^ 31) : frac 23 (BitVec.ofNat 32 p) = p % 2 ^ 23 := by
  rw [frac_eq, BitVec.toNat_ofNat]; omega

/-- A pattern below `2 ^ 31` is its own magnitude. -/
theorem mag_ofNat (p : ℕ) (h : p < 2 ^ 31) : mag 8 23 (BitVec.ofNat 32 p) = p := by
  unfold mag; rw [expo_ofNat p h, frac_ofNat p h]; omega

/-- A pattern below `2 ^ 31` has no sign. -/
theorem sign_ofNat (p : ℕ) (h : p < 2 ^ 31) : sign 8 23 (BitVec.ofNat 32 p) = false := by
  unfold sign
  rw [beq_eq_false_iff_ne]
  intro e
  have := congrArg BitVec.toNat e
  rw [BitVec.extractLsb'_toNat, BitVec.toNat_ofNat, Nat.shiftRight_eq_div_pow] at this
  change p % 2 ^ 32 / 2 ^ 31 % 2 ^ 1 = 1 at this
  omega

/-- A pattern up to infinity's is a number. -/
theorem not_nan (p : ℕ) (h : p ≤ INF) : ¬ IsNaN 8 23 (BitVec.ofNat 32 p) := by
  unfold IsNaN
  have h' : p ≤ 2139095040 := h
  rw [expo_ofNat p (by omega), frac_ofNat p (by omega)]; omega

/-- A pattern up to infinity's denotes its absolute value. -/
theorem val_abs (p : ℕ) (h : p ≤ INF) : val p = absVal 8 23 (BitVec.ofNat 32 p) := by
  have h' : p ≤ 2139095040 := h
  rw [val_eq, ieee_eq_signed_absVal (not_nan p h), sign_ofNat p (by omega)]; rfl

/-- The values of the patterns up to infinity increase strictly. -/
theorem val_lt_iff (p q : ℕ) (hp : p ≤ INF) (hq : q ≤ INF) : val p < val q ↔ p < q := by
  have hp' : p ≤ 2139095040 := hp
  have hq' : q ≤ 2139095040 := hq
  rw [val_abs p hp, val_abs q hq, absVal_lt_absVal_iff (not_nan p hp) (not_nan q hq), mag_ofNat p (by omega), mag_ofNat q (by omega)]

/-- The values of the patterns up to infinity are ordered as the patterns are. -/
theorem val_le_iff (p q : ℕ) (hp : p ≤ INF) (hq : q ≤ INF) : val p ≤ val q ↔ p ≤ q := by
  rw [← not_lt, val_lt_iff q p hq hp, not_lt]

/-- Pattern zero denotes zero. -/
theorem val_zero : val 0 = 0 := by
  rw [val_eq]; simp [Ideal.ieee]

/-- The pattern of infinity denotes the greatest extended real. -/
theorem val_inf : val INF = ⊤ := by
  rw [val_abs INF le_rfl, absVal, if_pos]
  rw [expo_ofNat INF (by norm_num)]
  show 2139095040 / 2 ^ 23 = 2 ^ 8 - 1
  norm_num

/-- The patterns above infinity's are not numbers and denote the least extended real. -/
theorem val_nan (p : ℕ) (h : INF < p) (h' : p < 2 ^ 31) : val p = ⊥ := by
  have h0 : 2139095040 < p := h
  have e : expo 8 23 (BitVec.ofNat 32 p) = 2 ^ 8 - 1 := by rw [expo_ofNat p h']; omega
  have f : frac 23 (BitVec.ofNat 32 p) ≠ 0 := by rw [frac_ofNat p h']; omega
  rw [val_eq]
  unfold Ideal.ieee
  simp only [show ((BitVec.ofNat 32 p).extractLsb' 23 8).toNat = expo 8 23 (BitVec.ofNat 32 p) from rfl,
    show ((BitVec.ofNat 32 p).extractLsb' 0 23).toNat = frac 23 (BitVec.ofNat 32 p) from rfl, if_pos e, if_neg f]

/-- The value of a normal pattern from its exponent and significand. -/
theorem val_normal (E T : ℕ) (h1 : 1 ≤ E) (h2 : E ≤ 254) (hT : T < 2 ^ 23) :
    val (E * 2 ^ 23 + T) = ((((2 ^ 23 + T : ℕ) : ℝ) * (2 : ℝ) ^ ((E : ℤ) - 150) : ℝ) : EReal) := by
  have hp : E * 2 ^ 23 + T < 2 ^ 31 := by omega
  have e : expo 8 23 (BitVec.ofNat 32 (E * 2 ^ 23 + T)) = E := by rw [expo_ofNat _ hp]; omega
  have f : frac 23 (BitVec.ofNat 32 (E * 2 ^ 23 + T)) = T := by rw [frac_ofNat _ hp]; omega
  rw [val_eq]
  unfold Ideal.ieee
  simp only [show ((BitVec.ofNat 32 (E * 2 ^ 23 + T)).extractLsb' 23 8).toNat = expo 8 23 (BitVec.ofNat 32 (E * 2 ^ 23 + T)) from rfl,
    show ((BitVec.ofNat 32 (E * 2 ^ 23 + T)).extractLsb' 0 23).toNat = frac 23 (BitVec.ofNat 32 (E * 2 ^ 23 + T)) from rfl,
    show ((BitVec.ofNat 32 (E * 2 ^ 23 + T)).extractLsb' (8 + 23) 1 == 1#1) = sign 8 23 (BitVec.ofNat 32 (E * 2 ^ 23 + T)) from rfl,
    e, f, sign_ofNat _ hp]
  rw [if_neg (by omega), if_neg (by omega)]
  congr 2
  · simp
  · congr 1; omega

/-- Powers of two. -/
theorem val_pow (E : ℕ) (h1 : 1 ≤ E) (h2 : E ≤ 254) : val (E * 2 ^ 23) = (((2 : ℝ) ^ ((E : ℤ) - 127) : ℝ) : EReal) := by
  have h := val_normal E 0 h1 h2 (by norm_num)
  rw [Nat.add_zero] at h
  rw [h]
  congr 1
  rw [show ((E : ℤ) - 127) = 23 + ((E : ℤ) - 150) by ring, zpow_add₀ (by norm_num)]
  norm_num

/-- The largest float below 448 times a power of two, as a pattern. -/
theorem val_top_mul (i : ℕ) (hi : i ≤ 245) :
    val 1138753535 * (((2 : ℝ) ^ ((i : ℤ) - 126) : ℝ) : EReal) = val ((i + 9) * 2 ^ 23 + 6291455) := by
  have e : (1138753535 : ℕ) = 135 * 2 ^ 23 + 6291455 := by norm_num
  rw [e, val_normal 135 _ (by norm_num) (by norm_num) (by norm_num), val_normal (i + 9) _ (by omega) (by omega) (by norm_num),
    ← EReal.coe_mul]
  congr 1
  rw [mul_assoc, ← zpow_add₀ (by norm_num)]
  congr 2
  push_cast
  ring

/-! ## The bisection -/

/-- One step: add `c` where the value of the sum is still at most `a`. -/
def step (a : EReal) (c p : ℕ) : ℕ := if val (p + c) ≤ a then p + c else p

/-- The steps `2 ^ (n - 1)`, …, `1`. -/
def bis (a : EReal) : ℕ → ℕ → ℕ
  | 0, p => p
  | n + 1, p => bis a n (step a (2 ^ n) p)

/-- The steps from a multiple `p` of `2 ^ n` find every `b` in reach that separates the patterns. -/
theorem bis_eq (a : EReal) (b : ℕ) (hb : b < INF) (h : ∀ q ≤ INF, val q ≤ a ↔ q ≤ b) (n : ℕ) (hn : n ≤ 31) :
    ∀ p k : ℕ, p = k * 2 ^ n → p ≤ b → b < p + 2 ^ n → bis a n p = b := by
  have hb' : b < 2139095040 := hb
  induction n with
  | zero =>
    intro p k _ h1 h2
    unfold bis
    omega
  | succ n ih =>
    intro p k hk h1 h2
    have hc : p + 2 ^ n ≤ INF := by
      show p + 2 ^ n ≤ 2139095040
      have hn' : n ≤ 30 := by omega
      clear ih h hn
      interval_cases n <;> omega
    rw [pow_succ] at h2 hk
    unfold bis step
    by_cases hv : val (p + 2 ^ n) ≤ a
    · rw [if_pos hv]
      exact ih (by omega) _ (2 * k + 1) (by rw [hk]; ring) ((h _ hc).mp hv) (by omega)
    · rw [if_neg hv]
      have hq : ¬ p + 2 ^ n ≤ b := fun q => hv ((h _ hc).mpr q)
      exact ih (by omega) _ (2 * k) (by rw [hk]; ring) h1 (by omega)

/-- Every step of the bisection for `⊤` is taken. -/
theorem bis_top (n p : ℕ) : bis ⊤ n p + 1 = p + 2 ^ n := by
  induction n generalizing p with
  | zero => rfl
  | succ n ih =>
    unfold bis step
    rw [if_pos le_top, ih, pow_succ]
    ring

/-- What the bisection finds for a value that is not negative: the largest pattern whose value is at most it. -/
theorem bis_spec (a : EReal) (ha : 0 ≤ a) : min (bis a 31 0) INF ≤ INF ∧ ∀ q ≤ INF, val q ≤ a ↔ q ≤ min (bis a 31 0) INF := by
  refine ⟨min_le_right _ _, ?_⟩
  by_cases ht : a = ⊤
  · subst ht
    intro q hq
    have := bis_top 31 0
    have h31 : (2 : ℕ) ^ 31 = 2147483648 := by norm_num
    have hq' : q ≤ 2139095040 := hq
    exact ⟨fun _ => le_min (by omega) hq, fun _ => le_top⟩
  · classical
    let b := Nat.findGreatest (fun p => val p ≤ a) INF
    have h0 : val b ≤ a := Nat.findGreatest_spec (P := fun p => val p ≤ a) (Nat.zero_le INF) (by show val 0 ≤ a; rw [val_zero]; exact ha)
    have hle : b ≤ INF := Nat.findGreatest_le _
    have hlt : b < INF := lt_of_le_of_ne hle fun e => ht (top_le_iff.mp (by rw [← val_inf, ← e]; exact h0))
    have hs : ∀ q ≤ INF, val q ≤ a ↔ q ≤ b := fun q hq =>
      ⟨fun h => Nat.le_findGreatest hq h, fun h => le_trans ((val_le_iff q b hq hle).mpr h) h0⟩
    have hlt' : b < 2139095040 := hlt
    rw [bis_eq a b hlt hs 31 le_rfl 0 0 (by norm_num) (Nat.zero_le _) (by norm_num; omega), min_eq_left hle]
    exact hs

/-! ## The scale -/

/-- The pattern of the scale from the pattern of the largest magnitude. -/
def scalePat (b : ℕ) : ℕ := if 81788927 ≤ b then ((b + 2097153) / 2 ^ 23 - 8) * 2 ^ 23 else 1065353216

/-- The `i`-th power of two the reference considers. -/
def pw (i : ℕ) : EReal := (((2 : ℝ) ^ ((i : ℤ) - 126) : ℝ) : EReal)

/-- The `i`-th candidate for the scale: the power where its product with the largest float below 448 exceeds `a`. -/
def cand (a : EReal) (i : Fin 247) : EReal := if a < val 1138753535 * pw i then pw i else val 2071986176

/-- The powers increase. -/
theorem pw_le {i j : ℕ} (h : i ≤ j) : pw i ≤ pw j := by
  unfold pw
  rw [EReal.coe_le_coe_iff]
  exact zpow_le_zpow_right₀ (by norm_num) (by omega)

/-- The pattern of the `E`-th power. -/
theorem val_pw (E : ℕ) (h1 : 1 ≤ E) (h2 : E ≤ 246) : val ((E + 1) * 2 ^ 23) = pw E := by
  rw [val_pow (E + 1) (by omega) (by omega)]
  unfold pw
  congr 2
  push_cast
  ring

/-- The pattern of the last power, `2 ^ 120`. -/
theorem val_last : val 2071986176 = pw 246 := val_pw 246 (by norm_num) (by norm_num)

/-- The pattern of one. -/
theorem val_one : val 1065353216 = 1 := by
  have h := val_pow 127 (by norm_num) (by norm_num)
  norm_num at h
  exact h

section Scale
variable (a : EReal) (b : ℕ) (hb : b ≤ INF) (h : ∀ q ≤ INF, val q ≤ a ↔ q ≤ b)
include hb h

/-- A value is below that of a pattern exactly where the pattern found for it is smaller. -/
theorem lt_val_iff (q : ℕ) (hq : q ≤ INF) : a < val q ↔ b < q := by
  rw [← not_le, h q hq, not_le]

/-- The least candidate, where the value is large enough. -/
theorem fold_cand (hn : 81788927 ≤ b) :
    (Finset.univ : Finset (Fin 247)).fold min ⊤ (cand a) = pw ((b + 2097153) / 2 ^ 23 - 9) := by
  have hb' : b ≤ 2139095040 := hb
  obtain ⟨E, hE⟩ : ∃ E, E = (b + 2097153) / 2 ^ 23 := ⟨_, rfl⟩
  rw [← hE]
  have hc : ∀ i : Fin 247, i.val ≤ 245 → (a < val 1138753535 * pw i ↔ E - 9 ≤ i.val) := by
    intro i hi
    unfold pw
    rw [val_top_mul i.val hi, lt_val_iff a b hb h _ (by show _ ≤ 2139095040; omega)]
    omega
  apply le_antisymm
  · rw [Finset.fold_min_le]
    right
    refine ⟨⟨E - 9, by omega⟩, Finset.mem_univ _, ?_⟩
    unfold cand
    by_cases hi : E - 9 ≤ 245
    · rw [if_pos ((hc _ hi).mpr le_rfl)]
    · have e : E - 9 = 246 := by omega
      rw [val_last]
      simp only [e]
      split <;> exact le_rfl
  · rw [Finset.le_fold_min]
    refine ⟨le_top, fun i _ => ?_⟩
    unfold cand
    by_cases hi : i.val ≤ 245
    · by_cases hv : a < val 1138753535 * pw i
      · rw [if_pos hv]; exact pw_le ((hc i hi).mp hv)
      · rw [if_neg hv, val_last]; exact pw_le (by omega)
    · have e : i.val = 246 := by omega
      rw [val_last, e]
      split <;> exact pw_le (by omega)

/-- The reference's scale is the value of the kernel's pattern. -/
theorem scale_eq :
    (if a < val 81788927 then val 1065353216 else (Finset.univ : Finset (Fin 247)).fold min ⊤ (cand a)) = val (scalePat b) := by
  have hb' : b ≤ 2139095040 := hb
  unfold scalePat
  by_cases hn : 81788927 ≤ b
  · rw [if_neg (by rw [lt_val_iff a b hb h _ (by show _ ≤ 2139095040; omega)]; omega), if_pos hn, fold_cand a b hb h hn,
      ← val_pw _ (by omega) (by omega)]
    congr 2
    omega
  · rw [if_pos (by rw [lt_val_iff a b hb h _ (by show _ ≤ 2139095040; omega)]; omega), if_neg hn]

omit h in
/-- The reciprocal of the scale is the value of the kernel's second pattern. -/
theorem inv_eq : Ideal.div (val 1065353216) (val (scalePat b)) = val (2130706432 - scalePat b) := by
  have hb' : b ≤ 2139095040 := hb
  obtain ⟨E, h1, h2, hE⟩ : ∃ E, 1 ≤ E ∧ E ≤ 253 ∧ scalePat b = E * 2 ^ 23 := by
    unfold scalePat
    by_cases hn : 81788927 ≤ b
    · rw [if_pos hn]; exact ⟨_, by omega, by omega, rfl⟩
    · rw [if_neg hn]; exact ⟨127, by norm_num, by norm_num, by norm_num⟩
  rw [hE, val_one, show 2130706432 - E * 2 ^ 23 = (254 - E) * 2 ^ 23 by omega, val_pow E h1 (by omega),
    val_pow (254 - E) (by omega) (by omega)]
  have hne : (((2 : ℝ) ^ ((E : ℤ) - 127) : ℝ) : EReal) ≠ 0 := by
    rw [Ne, EReal.coe_eq_zero]; positivity
  unfold Ideal.div
  rw [if_neg hne, one_mul, ← EReal.coe_inv, ← zpow_neg]
  congr 2
  push_cast [Nat.cast_sub (show E ≤ 254 by omega)]
  ring

end Scale
end Cert.Patterns
-- ==== Proof.TileScale.lean ====
module

public import proofs.«01_k».proof.Proof.Tile
public import proofs.«01_k».proof.Proof.Patterns
public import Idealize.ShloMosaic.Lib.Pointwise
/-!
  The scale and the codes of a tile at an index, through the patterns of its row maximum.
-/
set_option maxRecDepth 16384

@[expose] public section
noncomputable section
open Idealize.ShloMosaic Idealize.ShloMosaic.TcCoe
namespace Cert.KernelIdeal.Val
open Cert.KernelIdeal Cert.KernelIdeal.Gen Cert.Patterns

/-- One vector step at an index is one step on the pattern there. -/
theorem vstep_apply (a : FVec Ideal S1024x1 .f32) (c p : ℕ) (v : IVec S1024x1 32) (i : S1024x1.Idx) (h : v i = BitVec.ofNat 32 p) :
    vstep a (BitVec.ofNat 32 c) v i = BitVec.ofNat 32 (step (a i) c p) := by
  have hs : v i + BitVec.ofNat 32 c = BitVec.ofNat 32 (p + c) := by rw [h, ← BitVec.ofNat_add]
  show (if BitVec.ofBool (decide (Ideal.ofBits .f32 (v i + BitVec.ofNat 32 c) ≤ a i)) = 1#1 then v i + BitVec.ofNat 32 c else v i) = _
  rw [hs, h]
  unfold step val
  by_cases hv : Ideal.ofBits .f32 (BitVec.ofNat 32 (p + c)) ≤ a i
  · rw [if_pos hv, if_pos (by simp [hv])]
  · rw [if_neg hv, if_neg (by simp [hv])]

/-- The vector steps at an index are the steps on the pattern there. -/
theorem foldl_apply (a : FVec Ideal S1024x1 .f32) (i : S1024x1.Idx) (L : List ℕ) : ∀ (p : ℕ) (v : IVec S1024x1 32), v i = BitVec.ofNat 32 p →
    ((L.map (BitVec.ofNat 32)).foldl (fun q c => vstep a c q) v) i = BitVec.ofNat 32 (L.foldl (fun q c => step (a i) c q) p) := by
  induction L with
  | nil => exact fun p v h => h
  | cons c L ih => exact fun p v h => ih _ _ (vstep_apply a c p v i h)

/-- The powers `2 ^ (n - 1)`, …, `1`. -/
def pows : ℕ → List ℕ
  | 0 => []
  | n + 1 => 2 ^ n :: pows n

/-- The bisection as a fold over the powers of two. -/
theorem bis_foldl (a : EReal) (n : ℕ) : ∀ p, bis a n p = (pows n).foldl (fun q c => step a c q) p := by
  induction n with
  | zero => exact fun p => rfl
  | succ n ih => exact fun p => ih _

/-- The bisection's steps on a column of values, row by row. -/
theorem vsteps_apply (a : FVec Ideal S1024x1 .f32) (i : S1024x1.Idx) : vsteps a i = BitVec.ofNat 32 (bis (a i) 31 0) := by
  have e : [1073741824#32, 536870912#32, 268435456#32, 134217728#32, 67108864#32, 33554432#32, 16777216#32, 8388608#32,
    4194304#32, 2097152#32, 1048576#32, 524288#32, 262144#32, 131072#32, 65536#32, 32768#32, 16384#32, 8192#32,
    4096#32, 2048#32, 1024#32, 512#32, 256#32, 128#32, 64#32, 32#32, 16#32, 8#32, 4#32, 2#32, 1#32] = (pows 31).map (BitVec.ofNat 32) := by
    decide
  rw [bis_foldl]
  unfold vsteps
  rw [e]
  exact foldl_apply a i (pows 31) 0 _ rfl

/-- The bisection stays below `2 ^ n` past its start. -/
theorem bis_lt (a : EReal) (n : ℕ) : ∀ p, bis a n p < p + 2 ^ n := by
  induction n with
  | zero => intro p; unfold bis; omega
  | succ n ih =>
    intro p
    unfold bis step
    rw [pow_succ]
    split
    · have := ih (p + 2 ^ n); omega
    · have := ih p; omega

/-- The pattern found for the row maximum. -/
def pat (a : EReal) : ℕ := min (bis a 31 0) INF

/-- The patterns that the kernel finds for a column of values, row by row. -/
theorem bitsOf_apply (a : FVec Ideal S1024x1 .f32) (i : S1024x1.Idx) : bitsOf a i = BitVec.ofNat 32 (pat (a i)) := by
  have h : bis (a i) 31 0 < 2147483648 := by have := bis_lt (a i) 31 0; norm_num at this; exact this
  show (if (vsteps a i).slt 2139095040#32 then vsteps a i else 2139095040#32) = _
  rw [vsteps_apply]
  unfold pat
  generalize bis (a i) 31 0 = b at *
  have e : ((BitVec.ofNat 32 b).slt 2139095040#32 = true) ↔ b < 2139095040 := by
    rw [BitVec.slt_iff_toInt_lt, BitVec.toInt_eq_toNat_of_lt, BitVec.toInt_eq_toNat_of_lt]
    all_goals simp only [BitVec.toNat_ofNat]
    all_goals omega
  by_cases hb : b < 2139095040
  · rw [if_pos (e.mpr hb), min_eq_left (show b ≤ INF from le_of_lt hb)]
  · rw [if_neg (fun h => hb (e.mp h)), min_eq_right (show (INF : ℕ) ≤ b by show 2139095040 ≤ b; omega)]

/-- The pattern found is at most infinity's. -/
theorem pat_le (a : EReal) : pat a ≤ INF := min_le_right _ _

/-- The mask keeps the exponent field. -/
theorem and_mask (n : ℕ) (h : n < 2 ^ 31) : BitVec.ofNat 32 n &&& 2139095040#32 = BitVec.ofNat 32 (n / 2 ^ 23 * 2 ^ 23) := by
  apply BitVec.eq_of_toNat_eq
  rw [BitVec.toNat_and, BitVec.toNat_ofNat, BitVec.toNat_ofNat, BitVec.toNat_ofNat]
  have h1 : n % 2 ^ 32 = n := by omega
  have h2 : (n / 2 ^ 23 * 2 ^ 23) % 2 ^ 32 = n / 2 ^ 23 * 2 ^ 23 := by omega
  rw [h1, h2]
  have h3 : (2139095040 : ℕ) % 2 ^ 32 = (2 ^ 8 - 1) * 2 ^ 23 := by norm_num
  rw [h3]
  apply Nat.eq_of_testBit_eq
  intro i
  rw [Nat.testBit_and, Nat.testBit_mul_two_pow, Nat.testBit_mul_two_pow, Nat.testBit_two_pow_sub_one, Nat.testBit_div_two_pow]
  by_cases hi : 23 ≤ i
  · have e : i - 23 + 23 = i := by omega
    simp only [hi, decide_true, Bool.true_and]
    rw [e]
    by_cases h8 : i - 23 < 8
    · simp [h8]
    · rw [Nat.testBit_lt_two_pow (lt_of_lt_of_le h (Nat.pow_le_pow_right (by norm_num) (by omega)))]; simp
  · simp [hi]

/-- The pattern of the scale. -/
theorem scaleBits_apply (a : FVec Ideal S1024x1 .f32) (i : S1024x1.Idx) : scaleBits a i = BitVec.ofNat 32 (scalePat (pat (a i))) := by
  have hb := pat_le (a i)
  unfold scaleBits k0_pay1
  show (if BitVec.ofBool ((81788927#32).sle (bitsOf a i)) = 1#1 then ((bitsOf a i + 2097153#32) &&& 2139095040#32) - 67108864#32 else 1065353216#32) = _
  rw [bitsOf_apply]
  generalize pat (a i) = b at *
  have hb' : b ≤ 2139095040 := hb
  have e : ((81788927#32).sle (BitVec.ofNat 32 b) = true) ↔ 81788927 ≤ b := by
    rw [BitVec.sle_iff_toInt_le, BitVec.toInt_eq_toNat_of_lt, BitVec.toInt_eq_toNat_of_lt]
    all_goals simp only [BitVec.toNat_ofNat]
    all_goals omega
  unfold scalePat
  by_cases hn : 81788927 ≤ b
  · rw [if_pos hn, if_pos (by rw [e.mpr hn]; rfl), ← BitVec.ofNat_add, and_mask _ (by omega)]
    apply BitVec.eq_of_toNat_eq
    rw [BitVec.toNat_sub, BitVec.toNat_ofNat, BitVec.toNat_ofNat, BitVec.toNat_ofNat]
    omega
  · rw [if_neg hn, if_neg (by rw [Bool.eq_false_iff.mpr (fun h => hn (e.mp h))]; decide)]

/-- The pattern of the scale is at most `254 * 2 ^ 23`. -/
theorem scalePat_le {b : ℕ} (hb : b ≤ INF) : scalePat b ≤ 2130706432 := by
  have hb' : b ≤ 2139095040 := hb
  unfold scalePat
  split <;> omega

/-- The subtraction that makes the reciprocal's pattern does not wrap round. -/
theorem ofNat_sub (p : ℕ) (hp : p ≤ 2130706432) : 2130706432#32 - BitVec.ofNat 32 p = BitVec.ofNat 32 (2130706432 - p) := by
  apply BitVec.eq_of_toNat_eq
  rw [BitVec.toNat_sub, BitVec.toNat_ofNat, BitVec.toNat_ofNat, BitVec.toNat_ofNat]
  omega

end Cert.KernelIdeal.Val
-- ==== Proof.Spec.lean ====
module

public import proofs.«01_k».proof.Proof.TileScale
/-!
  What both programs compute for one row and one group of 128 columns, and why the two ways to the scale agree.
-/
set_option maxRecDepth 16384

@[expose] public section
noncomputable section
open Idealize.ShloMosaic
namespace Cert.Spec
open Cert.Patterns Cert.KernelIdeal.Val

/-- The gated activation from a row of activations, a gate row and an up row of the weights. -/
def glu (x g u : Fin 1280 → EReal) : EReal :=
  (∑ k, x k * g k) * Ideal.logistic (∑ k, x k * g k) * ∑ k, x k * u k

/-- A dequantised row of activations. -/
def act (xc : Fin 1280 → EReal) (xs : Fin 10 → EReal) (k : Fin 1280) : EReal := xc k * xs ⟨k.val / 128, by omega⟩

/-- The dequantised weights. -/
def wt (wc : Fin 2816 → Fin 1280 → EReal) (ws : Fin 22 → Fin 10 → EReal) (f : Fin 2816) (k : Fin 1280) : EReal :=
  wc f k * ws ⟨f.val / 128, by omega⟩ ⟨k.val / 128, by omega⟩

/-- The gated activation in column `l` of group `j` of a row. -/
def group (xc : Fin 1280 → EReal) (xs : Fin 10 → EReal) (wc : Fin 2816 → Fin 1280 → EReal) (ws : Fin 22 → Fin 10 → EReal)
    (j : Fin 11) (l : Fin 128) : EReal :=
  glu (act xc xs) (wt wc ws ⟨j.val * 128 + l.val, by omega⟩) (wt wc ws ⟨1408 + (j.val * 128 + l.val), by omega⟩)

/-- The largest magnitude of a group. -/
def largest (h : Fin 128 → EReal) : EReal :=
  (Finset.univ : Finset (Fin 128)).fold max (Ideal.ofBits .f32 4286578688#32) fun l => max (h l) (-(h l))

/-- The scale as the kernel makes it, from the pattern of the largest magnitude. -/
def scaleOf (a : EReal) : EReal := val (scalePat (pat a))

/-- The code as the kernel makes it. -/
def codeOf (a h : EReal) : EReal :=
  min (Ideal.ofBits .f32 1138753536#32) (max (Ideal.ofBits .f32 3286237184#32) (h * val (2130706432 - scalePat (pat a))))

/-- The scale as the reference makes it, the least of the powers of two that are large enough. -/
def refScale (a : EReal) : EReal :=
  if a < val 81788927 then val 1065353216 else (Finset.univ : Finset (Fin 247)).fold min ⊤ (cand a)

/-- The code as the reference makes it. -/
def refCode (a h : EReal) : EReal :=
  min (Ideal.ofBits .f32 1138753536#32) (max (Ideal.ofBits .f32 3286237184#32) (h * Ideal.div (val 1065353216) (refScale a)))

/-- A magnitude is not negative. -/
theorem magnitude_nonneg (x : EReal) : 0 ≤ max x (-x) := by
  rcases le_total 0 x with h | h
  · exact le_max_of_le_left h
  · exact le_max_of_le_right (EReal.neg_nonneg.mpr h)

/-- The largest magnitude is not negative. -/
theorem largest_nonneg (h : Fin 128 → EReal) : 0 ≤ largest h := by
  unfold largest
  rw [Finset.le_fold_max]
  exact Or.inr ⟨0, Finset.mem_univ _, magnitude_nonneg _⟩

/-- The two scales agree. -/
theorem refScale_eq (a : EReal) (ha : 0 ≤ a) : refScale a = scaleOf a :=
  scale_eq a (pat a) (pat_le a) (bis_spec a ha).2

/-- The two codes agree. -/
theorem refCode_eq (a h : EReal) (ha : 0 ≤ a) : refCode a h = codeOf a h := by
  unfold refCode codeOf
  rw [refScale_eq a ha]
  unfold scaleOf
  rw [inv_eq (pat a) (pat_le a)]

end Cert.Spec
-- ==== Proof.Pieces.lean ====
module

public import proofs.«01_k».proof.Proof.Gen.KernelIdeal.Frame
public import proofs.«01_k».proof.Proof.Tile
public import Idealize.ShloMosaic.Lib.Pipeline.ValueKit
public import Idealize.ShloMosaic.Lib.WholeRead
/-!
  The stores of one grid point, written as families: ten stores of dequantised activations, 220 stores of dequantised
  weights (first point only), eleven stores of codes and eleven of scales. A list of stores has its last store first.
-/
set_option maxRecDepth 16384

@[expose] public section
noncomputable section
open Idealize.ShloMosaic Idealize.ShloMosaic.TcCoe Idealize.SL.Sem
namespace Cert.KernelIdeal.Val
open Cert.KernelIdeal Cert.KernelIdeal.Gen

/-- Column `g` of the activation scales is in range. -/
theorem slicesX (g : Fin 10) : S1024x10.Slices ![0, g.val] S1024x1 := by revert g; decide

/-- One stored block of dequantised activations: 128 columns of codes times column `g` of the scales. -/
def xpay (g : Fin 10) (s : Vec Ideal S1024x10 .f32) (v : Vec Ideal S1024x128 .fp8e4m3) : FVec Ideal S1024x128 .bf16 :=
  shapeCast S1024x128 (mulf (extf .bf16 (shapeCast S1024x128 v shapeCasts_S1024x128_S1024x128) bitsLt_fp8e4m3_bf16)
    (broadcastTo S1024x128 (extractStridedSlice S1024x1 ![0, g.val] (k0_pay261 s) (slicesX g)) broadcasts_S1024x1_S1024x128))
    shapeCasts_S1024x128_S1024x128

/-- The offsets of the stores of activations. -/
def offX (k : Fin 10) : Fin 2 → Nat := ![0, 128 * (9 - k.val)]

/-- A column group of the activations lies in the block. -/
theorem inbX (k : Fin 10) : ∀ a, offX k a + S1024x128.size a ≤ S1024x1280.size a := by revert k; decide

/-- The stores of dequantised activations. -/
def xpieces (arg2 : Memref sig .tc .vmem S1024x1280 .fp8e4m3) (harg2 : arg2.IsWhole) (arg3 : Memref sig .tc .vmem S1024x10 .f32)
    (harg3 : arg3.IsWhole) (x1 : Vec Ideal S1024x1280 .fp8e4m3) (x2 : Vec Ideal S1024x10 .f32) :
    List (View.Piece (Elt Ideal) S1024x1280 .bf16) :=
  List.ofFn fun k : Fin 10 => ⟨Rect.unit (offX k) S1024x128.size (inbX k),
    xpay ⟨9 - k.val, by omega⟩
      (View.readAt (Elt Ideal) arg3.view (Rect.unit (s := S1024x10) ![0, 0] S1024x10.size inb_S1024x10_S1024x10_0_0).toLoadRect (harg3.unread x2))
      (View.readAt (Elt Ideal) arg2.view (Rect.unit (s := S1024x1280) (offX k) S1024x128.size (inbX k)).toLoadRect (harg2.unread x1))⟩

/-- The offsets of the stores of weights: tile, half, column group. -/
def offW (k : Fin 220) : Fin 3 → Nat := ![(219 - k.val) / 20, 128 * ((219 - k.val) / 10 % 2), 128 * ((219 - k.val) % 10)]

/-- A 128 by 128 block of the weights lies in the scratch. -/
theorem inbW (k : Fin 220) : ∀ a, offW k a + S1x128x128.size a ≤ S11x256x1280.size a := by
  revert k; decide +kernel

/-- The row of scales a store of weights reads. -/
def rowW (k : Fin 220) : Nat := (219 - k.val) / 20 + 11 * ((219 - k.val) / 10 % 2)

/-- The offsets of the weight codes a store reads. -/
def offC (k : Fin 220) : Fin 2 → Nat := ![128 * rowW k, 128 * ((219 - k.val) % 10)]

/-- A 128 by 128 block of the weight codes lies in their array. -/
theorem inbC (k : Fin 220) : ∀ a, offC k a + S128x128.size a ≤ S2816x1280.size a := by
  revert k; decide +kernel

/-- The offsets of the weight scale a store reads. -/
def offS (k : Fin 220) : Fin 2 → Nat := ![rowW k, (219 - k.val) % 10]

/-- A weight scale lies in its array. -/
theorem inbS (k : Fin 220) : ∀ a, offS k a + S1x1.size a ≤ S22x10.size a := by
  revert k; decide +kernel

/-- The stores of dequantised weights. -/
def wpieces (arg1 : Memref sig .tc .smem S22x10 .f32) (harg1 : arg1.IsWhole) (arg4 : Memref sig .tc .vmem S2816x1280 .fp8e4m3)
    (harg4 : arg4.IsWhole) (x0 : Vec Ideal S22x10 .f32) (x3 : Vec Ideal S2816x1280 .fp8e4m3) :
    List (View.Piece (Elt Ideal) S11x256x1280 .bf16) :=
  List.ofFn fun k : Fin 220 => ⟨Rect.unit (offW k) S1x128x128.size (inbW k),
    k0_pay260
      (View.readAt (Elt Ideal) arg4.view (Rect.unit (s := S2816x1280) (offC k) S128x128.size (inbC k)).toLoadRect (harg4.unread x3))
      (View.readAt (Elt Ideal) arg1.view (Rect.unit (s := S22x10) (offS k) S1x1.size (inbS k)).toLoadRect (harg1.unread x0)
        (Shape.Idx.first (numel1_S1x1.symm ▸ Nat.one_pos)))⟩

/-- The offsets of the stores of codes. -/
def off4 (k : Fin 11) : Fin 2 → Nat := ![0, 128 * (10 - k.val)]

/-- The 128 columns of a tile lie in the block of codes. -/
theorem inb4 (k : Fin 11) : ∀ a, off4 k a + S1024x128.size a ≤ S1024x1408.size a := by revert k; decide

/-- The stores of codes, from the activations and the eleven tiles of weights. -/
def pieces4 (X : Vec Ideal S1024x1280 .bf16) (w : Fin 11 → Vec Ideal S1x256x1280 .bf16) :
    List (View.Piece (Elt Ideal) S1024x1408 .fp8e4m3) :=
  List.ofFn fun k : Fin 11 => ⟨Rect.unit (off4 k) S1024x128.size (inb4 k), tileCodes X (w ⟨10 - k.val, by omega⟩)⟩

/-- The offsets of the stores of scales. -/
def off5 (k : Fin 11) : Fin 2 → Nat := ![0, 10 - k.val]

/-- The column of a tile lies in the block of scales. -/
theorem inb5 (k : Fin 11) : ∀ a, off5 k a + S1024x1.size a ≤ S1024x11.size a := by revert k; decide

/-- The stores of scales. -/
def pieces5 (X : Vec Ideal S1024x1280 .bf16) (w : Fin 11 → Vec Ideal S1x256x1280 .bf16) :
    List (View.Piece (Elt Ideal) S1024x11 .f32) :=
  List.ofFn fun k : Fin 11 => ⟨Rect.unit (off5 k) S1024x1.size (inb5 k), tileScale X (w ⟨10 - k.val, by omega⟩)⟩

/-- The offsets of a tile's weights in the scratch. -/
def offT (j : Fin 11) : Fin 3 → Nat := ![j.val, 0, 0]

/-- A tile of the weights lies in the scratch. -/
theorem inbT (j : Fin 11) : ∀ a, offT j a + S1x256x1280.size a ≤ S11x256x1280.size a := by revert j; decide

section Runs
variable (c : Dev nD) (i : grid0.Coords) (arg1 : Memref sig .tc .smem S22x10 .f32) (harg1 : arg1.IsWhole)
  (arg2 : Memref sig .tc .vmem S1024x1280 .fp8e4m3) (harg2 : arg2.IsWhole) (arg3 : Memref sig .tc .vmem S1024x10 .f32) (harg3 : arg3.IsWhole)
  (arg4 : Memref sig .tc .vmem S2816x1280 .fp8e4m3) (harg4 : arg4.IsWhole) (arg5 : Memref sig .tc .vmem S1024x1408 .fp8e4m3) (harg5 : arg5.IsWhole)
  (arg6 : Memref sig .tc .vmem S1024x11 .f32) (harg6 : arg6.IsWhole) (arg7 : Memref sig .tc .vmem S11x256x1280 .bf16) (harg7 : arg7.IsWhole)
  (arg8 : Memref sig .tc .vmem S1024x1280 .bf16) (harg8 : arg8.IsWhole)
  (x0 : Vec Ideal S22x10 .f32) (x1 : Vec Ideal S1024x1280 .fp8e4m3) (x2 : Vec Ideal S1024x10 .f32) (x3 : Vec Ideal S2816x1280 .fp8e4m3)
  (xs0 : Vec Ideal S11x256x1280 .bf16)

/-- The activations as the body reads them back. -/
abbrev xread : Vec Ideal S1024x1280 .bf16 :=
  arg8.view.readCov (xpieces arg2 harg2 arg3 harg3 x1 x2) (Rect.unit (s := S1024x1280) ![0, 0] S1024x1280.size inb_S1024x1280_S1024x1280_0_0).toLoadRect

/-- The first point's stores to the weight scratch. -/
theorem wpieces_eq (hc0 : cond0_0 i) :
    (kernelRun0_A c i arg1 harg1 arg2 harg2 arg3 harg3 arg4 harg4 arg5 harg5 arg6 harg6 arg7 harg7 arg8 harg8 hc0 x0 x1 x2 x3).2.2.1
      = wpieces arg1 harg1 arg4 harg4 x0 x3 := rfl

/-- A later point's stores of codes. -/
theorem pieces4_B (hc0 : ¬ cond0_0 i) :
    (kernelRun0_B c i arg1 harg1 arg2 harg2 arg3 harg3 arg4 harg4 arg5 harg5 arg6 harg6 arg7 harg7 arg8 harg8 hc0 x0 x1 x2 x3 xs0).1
      = pieces4 (xread arg2 harg2 arg3 harg3 arg8 x1 x2)
          (fun j => View.readAt (Elt Ideal) arg7.view (Rect.unit (s := S11x256x1280) (offT j) S1x256x1280.size (inbT j)).toLoadRect (harg7.unread xs0)) := rfl

/-- A later point's stores of scales. -/
theorem pieces5_B (hc0 : ¬ cond0_0 i) :
    (kernelRun0_B c i arg1 harg1 arg2 harg2 arg3 harg3 arg4 harg4 arg5 harg5 arg6 harg6 arg7 harg7 arg8 harg8 hc0 x0 x1 x2 x3 xs0).2.1
      = pieces5 (xread arg2 harg2 arg3 harg3 arg8 x1 x2)
          (fun j => View.readAt (Elt Ideal) arg7.view (Rect.unit (s := S11x256x1280) (offT j) S1x256x1280.size (inbT j)).toLoadRect (harg7.unread xs0)) := rfl

/-- The first point's stores of codes. -/
theorem pieces4_A (hc0 : cond0_0 i) :
    (kernelRun0_A c i arg1 harg1 arg2 harg2 arg3 harg3 arg4 harg4 arg5 harg5 arg6 harg6 arg7 harg7 arg8 harg8 hc0 x0 x1 x2 x3).1
      = pieces4 (xread arg2 harg2 arg3 harg3 arg8 x1 x2)
          (fun j => arg7.view.readCov (wpieces arg1 harg1 arg4 harg4 x0 x3) (Rect.unit (s := S11x256x1280) (offT j) S1x256x1280.size (inbT j)).toLoadRect) := rfl

/-- The first point's stores of scales. -/
theorem pieces5_A (hc0 : cond0_0 i) :
    (kernelRun0_A c i arg1 harg1 arg2 harg2 arg3 harg3 arg4 harg4 arg5 harg5 arg6 harg6 arg7 harg7 arg8 harg8 hc0 x0 x1 x2 x3).2.1
      = pieces5 (xread arg2 harg2 arg3 harg3 arg8 x1 x2)
          (fun j => arg7.view.readCov (wpieces arg1 harg1 arg4 harg4 x0 x3) (Rect.unit (s := S11x256x1280) (offT j) S1x256x1280.size (inbT j)).toLoadRect) := rfl

end Runs
end Cert.KernelIdeal.Val
-- ==== Proof.Buffers.lean ====
module

public import proofs.«01_k».proof.Proof.Pieces
public import Idealize.ShloMosaic.Lib.Pipeline.ReadBack
public import Idealize.ShloMosaic.Lib.Pointwise
/-!
  What the two scratch buffers of the kernel hold, element by element: the dequantised activations of the current block
  of rows and the dequantised weights of every tile.
-/
set_option maxRecDepth 16384

@[expose] public section
noncomputable section
open Idealize.ShloMosaic Idealize.ShloMosaic.TcCoe Idealize.SL.Sem
namespace Cert.KernelIdeal.Val
open Cert.KernelIdeal Cert.KernelIdeal.Gen

/-- One stored block of activations at an index: the code times its row's scale in column `g`. -/
theorem xpay_apply (g : Fin 10) (s : Vec Ideal S1024x10 .f32) (v : Vec Ideal S1024x128 .fp8e4m3) (r : Fin 1024) (l : Fin 128) :
    (xpay g s v (ix2 r l) : EReal) = (v (ix2 r l) : EReal) * s (ix2 r g) := by
  pointwise [xpay, k0_pay261]

/-- One stored block of weights at an index: the code times the scale. -/
theorem wpay_apply (v : Vec Ideal S128x128 .fp8e4m3) (s : Elt Ideal .f32) (z : Fin 1) (r : Fin 128) (l : Fin 128) :
    (k0_pay260 (F := Ideal) v s (ix3 z r l) : EReal) = (v (ix2 r l) : EReal) * s := by
  pointwise [k0_pay260]

/-- The scale group a column of the contraction lies in. -/
def grp (k : Fin 1280) : Fin 10 := ⟨k.val / 128, by omega⟩

/-- The row of the weight array that row `f` of tile `j` comes from: gate rows first, up rows after. -/
def wRow (j : Fin 11) (f : Fin 256) : Fin 2816 := ⟨128 * (j.val + 11 * (f.val / 128)) + f.val % 128, by omega⟩

/-- The row of the weight scales that belongs to row `f` of tile `j`. -/
def sRow (j : Fin 11) (f : Fin 256) : Fin 22 := ⟨j.val + 11 * (f.val / 128), by omega⟩

/-- A dequantised activation: the code times the scale of its row and group. -/
def xval (x1 : Vec Ideal S1024x1280 .fp8e4m3) (x2 : Vec Ideal S1024x10 .f32) (r : Fin 1024) (k : Fin 1280) : EReal :=
  (x1 (ix2 r k) : EReal) * x2 (ix2 r (grp k))

/-- A dequantised weight of tile `j`. -/
def wval (x0 : Vec Ideal S22x10 .f32) (x3 : Vec Ideal S2816x1280 .fp8e4m3) (j : Fin 11) (f : Fin 256) (k : Fin 1280) : EReal :=
  (x3 (ix2 (wRow j f) k) : EReal) * x0 (ix2 (sRow j f) (grp k))

/-- The dequantised activations as an array. -/
def xmat (x1 : Vec Ideal S1024x1280 .fp8e4m3) (x2 : Vec Ideal S1024x10 .f32) : Vec Ideal S1024x1280 .bf16 :=
  fun y => xval x1 x2 (y 0) (y 1)

/-- The dequantised weights as an array: tile, row of the tile, column. -/
def wmat (x0 : Vec Ideal S22x10 .f32) (x3 : Vec Ideal S2816x1280 .fp8e4m3) : Vec Ideal S11x256x1280 .bf16 :=
  fun y => wval x0 x3 (y 0) (y 1) (y 2)

/-- An index of rank 2 from its coordinates. -/
theorem eq_ix2 {a b : Nat} (x : (⟨2, ![a, b]⟩ : Shape).Idx) (r : Fin a) (k : Fin b) (h0 : (x 0).val = r.val)
    (h1 : (x 1).val = k.val) : x = ix2 r k := by
  funext d; apply Fin.ext
  match d with
  | ⟨0, _⟩ => exact h0
  | ⟨1, _⟩ => exact h1

/-- An index of rank 3 from its coordinates. -/
theorem eq_ix3 {a b c : Nat} (x : (⟨3, ![a, b, c]⟩ : Shape).Idx) (i : Fin a) (r : Fin b) (k : Fin c) (h0 : (x 0).val = i.val)
    (h1 : (x 1).val = r.val) (h2 : (x 2).val = k.val) : x = ix3 i r k := by
  funext d; apply Fin.ext
  match d with
  | ⟨0, _⟩ => exact h0
  | ⟨1, _⟩ => exact h1
  | ⟨2, _⟩ => exact h2

/-- What the ten stores of activations leave. -/
theorem canon_xpieces (arg2 : Memref sig .tc .vmem S1024x1280 .fp8e4m3) (harg2 : arg2.IsWhole) (arg3 : Memref sig .tc .vmem S1024x10 .f32)
    (harg3 : arg3.IsWhole) (x1 : Vec Ideal S1024x1280 .fp8e4m3) (x2 : Vec Ideal S1024x10 .f32) :
    View.canon (xpieces arg2 harg2 arg3 harg3 x1 x2) = xmat x1 x2 := by
  funext y
  have h1 : (y 1).val < 1280 := (y 1).isLt
  have h0 : (y 0).val < 1024 := (y 0).isLt
  refine View.canon_ofFn_unit_eq_of_forall (S := S1024x1280) offX S1024x128.size inbX _ y _ ⟨⟨9 - (y 1).val / 128, by omega⟩, ?_⟩ ?_
  · intro a
    match a with
    | ⟨0, _⟩ => exact ⟨Nat.zero_le _, by show (y 0).val < 0 + 1024; omega⟩
    | ⟨1, _⟩ =>
      show 128 * (9 - (9 - (y 1).val / 128)) ≤ (y 1).val ∧ (y 1).val < 128 * (9 - (9 - (y 1).val / 128)) + 128
      omega
  · intro k x hx
    have e0 : (y 0).val = 0 + (x 0).val := hx 0
    have e1 : (y 1).val = 128 * (9 - k.val) + (x 1).val := hx 1
    have l1 : (x 1).val < 128 := (x 1).isLt
    have ex : x = ix2 (n0 := 1024) (n1 := 128) (x 0) (x 1) := eq_ix2 _ _ _ rfl rfl
    rw [ex]
    refine (xpay_apply _ _ _ _ _).trans ?_
    rw [harg2.readAt_unread, harg3.readAt_unread]
    refine congrArg₂ (fun u v : EReal => u * v) (congrArg x1 (eq_ix2 _ _ _ ?_ ?_)) (congrArg x2 (eq_ix2 _ _ _ ?_ ?_))
    · show 0 + 1 * (x 0).val = (y 0).val; omega
    · show 128 * (9 - k.val) + 1 * (x 1).val = (y 1).val; omega
    · show 0 + 1 * (x 0).val = (y 0).val; omega
    · show 0 + 1 * (9 - k.val) = (y 1).val / 128; omega

/-- What the 220 stores of weights leave. -/
theorem canon_wpieces (arg1 : Memref sig .tc .smem S22x10 .f32) (harg1 : arg1.IsWhole) (arg4 : Memref sig .tc .vmem S2816x1280 .fp8e4m3)
    (harg4 : arg4.IsWhole) (x0 : Vec Ideal S22x10 .f32) (x3 : Vec Ideal S2816x1280 .fp8e4m3) :
    View.canon (wpieces arg1 harg1 arg4 harg4 x0 x3) = wmat x0 x3 := by
  funext y
  have h0 : (y 0).val < 11 := (y 0).isLt
  have h1 : (y 1).val < 256 := (y 1).isLt
  have h2 : (y 2).val < 1280 := (y 2).isLt
  refine View.canon_ofFn_unit_eq_of_forall (S := S11x256x1280) offW S1x128x128.size inbW _ y _
    ⟨⟨219 - (20 * (y 0).val + 10 * ((y 1).val / 128) + (y 2).val / 128), by omega⟩, ?_⟩ ?_
  · intro a
    match a with
    | ⟨0, _⟩ =>
      show (219 - (219 - (20 * (y 0).val + 10 * ((y 1).val / 128) + (y 2).val / 128))) / 20 ≤ (y 0).val
        ∧ (y 0).val < (219 - (219 - (20 * (y 0).val + 10 * ((y 1).val / 128) + (y 2).val / 128))) / 20 + 1
      omega
    | ⟨1, _⟩ =>
      show 128 * ((219 - (219 - (20 * (y 0).val + 10 * ((y 1).val / 128) + (y 2).val / 128))) / 10 % 2) ≤ (y 1).val
        ∧ (y 1).val < 128 * ((219 - (219 - (20 * (y 0).val + 10 * ((y 1).val / 128) + (y 2).val / 128))) / 10 % 2) + 128
      omega
    | ⟨2, _⟩ =>
      show 128 * ((219 - (219 - (20 * (y 0).val + 10 * ((y 1).val / 128) + (y 2).val / 128))) % 10) ≤ (y 2).val
        ∧ (y 2).val < 128 * ((219 - (219 - (20 * (y 0).val + 10 * ((y 1).val / 128) + (y 2).val / 128))) % 10) + 128
      omega
  · intro k x hx
    have e0 : (y 0).val = (219 - k.val) / 20 + (x 0).val := hx 0
    have e1 : (y 1).val = 128 * ((219 - k.val) / 10 % 2) + (x 1).val := hx 1
    have e2 : (y 2).val = 128 * ((219 - k.val) % 10) + (x 2).val := hx 2
    have l0 : (x 0).val < 1 := (x 0).isLt
    have l1 : (x 1).val < 128 := (x 1).isLt
    have l2 : (x 2).val < 128 := (x 2).isLt
    have ex : x = ix3 (n0 := 1) (n1 := 128) (n2 := 128) (x 0) (x 1) (x 2) := eq_ix3 _ _ _ _ rfl rfl rfl
    rw [ex]
    refine (wpay_apply _ _ _ _ _).trans ?_
    rw [harg4.readAt_unread, harg1.readAt_unread]
    refine congrArg₂ (fun u v : EReal => u * v) (congrArg x3 (eq_ix2 _ _ _ ?_ ?_)) (congrArg x0 (eq_ix2 _ _ _ ?_ ?_))
    · show 128 * ((219 - k.val) / 20 + 11 * ((219 - k.val) / 10 % 2)) + 1 * (x 1).val
        = 128 * ((y 0).val + 11 * ((y 1).val / 128)) + (y 1).val % 128
      omega
    · show 128 * ((219 - k.val) % 10) + 1 * (x 2).val = (y 2).val; omega
    · show (219 - k.val) / 20 + 11 * ((219 - k.val) / 10 % 2) + 1 * 0 = (y 0).val + 11 * ((y 1).val / 128); omega
    · show (219 - k.val) % 10 + 1 * 0 = (y 2).val / 128; omega

end Cert.KernelIdeal.Val
-- ==== Proof.State.lean ====
module

public import proofs.«01_k».proof.Proof.Buffers
public import proofs.«01_k».proof.Proof.Gen.KernelIdeal.Value
/-!
  What the kernel's buffers hold after every grid point: the codes and scales of the point's rows, and the dequantised
  weights, which the first point computes and every later point finds unchanged.
-/
set_option maxRecDepth 16384

@[expose] public section
noncomputable section
open Idealize.ShloMosaic Idealize.ShloMosaic.TcCoe Idealize.SL.Sem
open Idealize.ShloMosaic.Pipeline (Dat)
namespace Cert.KernelIdeal.Val
open Cert.KernelIdeal Cert.KernelIdeal.Gen
variable (m : (ℓ : Loc nD τ sig) → Buf (Elt Ideal) ℓ)

/-- Tile `j` of the weights, as the body loads it. -/
def tileOf (W : Vec Ideal S11x256x1280 .bf16) (j : Fin 11) : Vec Ideal S1x256x1280 .bf16 :=
  fun x => W ((Rect.unit (s := S11x256x1280) (offT j) S1x256x1280.size (inbT j)).toLoadRect.idx x)

/-- The codes of one block of rows. -/
def blockCodes (X : Vec Ideal S1024x1280 .bf16) (W : Vec Ideal S11x256x1280 .bf16) : Vec Ideal S1024x1408 .fp8e4m3 :=
  View.canon (pieces4 X (tileOf W))

/-- The scales of one block of rows. -/
def blockScales (X : Vec Ideal S1024x1280 .bf16) (W : Vec Ideal S11x256x1280 .bf16) : Vec Ideal S1024x11 .f32 :=
  View.canon (pieces5 X (tileOf W))

section Runs
variable (c : Dev nD) (i : grid0.Coords) (arg1 : Memref sig .tc .smem S22x10 .f32) (harg1 : arg1.IsWhole)
  (arg2 : Memref sig .tc .vmem S1024x1280 .fp8e4m3) (harg2 : arg2.IsWhole) (arg3 : Memref sig .tc .vmem S1024x10 .f32) (harg3 : arg3.IsWhole)
  (arg4 : Memref sig .tc .vmem S2816x1280 .fp8e4m3) (harg4 : arg4.IsWhole) (arg5 : Memref sig .tc .vmem S1024x1408 .fp8e4m3) (harg5 : arg5.IsWhole)
  (arg6 : Memref sig .tc .vmem S1024x11 .f32) (harg6 : arg6.IsWhole) (arg7 : Memref sig .tc .vmem S11x256x1280 .bf16) (harg7 : arg7.IsWhole)
  (arg8 : Memref sig .tc .vmem S1024x1280 .bf16) (harg8 : arg8.IsWhole)
  (x0 : Vec Ideal S22x10 .f32) (x1 : Vec Ideal S1024x1280 .fp8e4m3) (x2 : Vec Ideal S1024x10 .f32) (x3 : Vec Ideal S2816x1280 .fp8e4m3)
  (xs0 : Vec Ideal S11x256x1280 .bf16)

/-- The activations read back from their scratch are the dequantised ones. -/
theorem xread_eq : xread arg2 harg2 arg3 harg3 arg8 x1 x2 = xmat x1 x2 := by
  unfold xread
  rw [View.readCov_eq_canon', canon_xpieces]
  funext y
  exact congrArg (xmat x1 x2) (eq_ix2 _ (y 0) (y 1) (by show 0 + 1 * (y 0).val = _; omega) (by show 0 + 1 * (y 1).val = _; omega)) |>.trans
    (congrArg (xmat x1 x2) (eq_ix2 y (y 0) (y 1) rfl rfl).symm)

/-- The codes that the first point stores. -/
theorem out0_A_4_eq (hc0 : cond0_0 i) :
    out0_A_4 c i arg1 harg1 arg2 harg2 arg3 harg3 arg4 harg4 arg5 harg5 arg6 harg6 arg7 harg7 arg8 harg8 hc0 x0 x1 x2 x3
      = blockCodes (xmat x1 x2) (wmat x0 x3) := by
  unfold out0_A_4
  rw [View.read_writes_junk_eq_canon, pieces4_A, xread_eq]
  simp only [View.readCov_eq_canon', canon_wpieces]
  rfl

/-- The scales that the first point stores. -/
theorem out0_A_5_eq (hc0 : cond0_0 i) :
    out0_A_5 c i arg1 harg1 arg2 harg2 arg3 harg3 arg4 harg4 arg5 harg5 arg6 harg6 arg7 harg7 arg8 harg8 hc0 x0 x1 x2 x3
      = blockScales (xmat x1 x2) (wmat x0 x3) := by
  unfold out0_A_5
  rw [View.read_writes_junk_eq_canon, pieces5_A, xread_eq]
  simp only [View.readCov_eq_canon', canon_wpieces]
  rfl

/-- The weight scratch after the first point. -/
theorem sout0_A_0_eq (hc0 : cond0_0 i) :
    sout0_A_0 c i arg1 harg1 arg2 harg2 arg3 harg3 arg4 harg4 arg5 harg5 arg6 harg6 arg7 harg7 arg8 harg8 hc0 x0 x1 x2 x3
      = wmat x0 x3 := by
  unfold sout0_A_0
  rw [View.read_writes_junk_eq_canon, wpieces_eq, canon_wpieces]

/-- A tile read back from the weight scratch. -/
theorem readTile_eq : (fun j : Fin 11 => View.readAt (Elt Ideal) arg7.view (Rect.unit (s := S11x256x1280) (offT j) S1x256x1280.size (inbT j)).toLoadRect (harg7.unread xs0))
    = tileOf xs0 := by
  funext j x
  rw [harg7.readAt_unread]
  rfl

/-- The codes that a later point stores. -/
theorem out0_B_4_eq (hc0 : ¬ cond0_0 i) :
    out0_B_4 c i arg1 harg1 arg2 harg2 arg3 harg3 arg4 harg4 arg5 harg5 arg6 harg6 arg7 harg7 arg8 harg8 hc0 x0 x1 x2 x3 xs0
      = blockCodes (xmat x1 x2) xs0 := by
  unfold out0_B_4
  rw [View.read_writes_junk_eq_canon, pieces4_B, xread_eq, readTile_eq]
  rfl

/-- The scales that a later point stores. -/
theorem out0_B_5_eq (hc0 : ¬ cond0_0 i) :
    out0_B_5 c i arg1 harg1 arg2 harg2 arg3 harg3 arg4 harg4 arg5 harg5 arg6 harg6 arg7 harg7 arg8 harg8 hc0 x0 x1 x2 x3 xs0
      = blockScales (xmat x1 x2) xs0 := by
  unfold out0_B_5
  rw [View.read_writes_junk_eq_canon, pieces5_B, xread_eq, readTile_eq]
  rfl

end Runs
end Cert.KernelIdeal.Val
-- ==== Proof.Blocks.lean ====
module

public import proofs.«01_k».proof.Proof.State
public import Idealize.ShloMosaic.Lib.Pipeline.ValueKit.Held
/-!
  The blocks the grid points read and write, in terms of the kernel's four operands.
-/
set_option maxRecDepth 16384

@[expose] public section
noncomputable section
open Idealize.ShloMosaic Idealize.ShloMosaic.TcCoe Idealize.SL.Sem
open Idealize.ShloMosaic.Pipeline (Dat)
namespace Cert.KernelIdeal.Val
open Cert.KernelIdeal Cert.KernelIdeal.Gen
variable (m : (ℓ : Loc nD τ sig) → Buf (Elt Ideal) ℓ) (c : Dev nD)

/-- Which block of its array each window is at: block `t` of rows, or the whole array. -/
theorem idx : ∀ t : Fin cfg0.N, win0_0.index t = ![0, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

/-- Every point reads the whole array of weight scales. -/
theorem iblk0_eq (t : Fin cfg0.N) : iblk m c 0 t = m ((c : Thread nD τ).loc main_arg3) := by
  funext y
  blk_ext [iblk, V, idx t]

/-- Every point reads the whole array of weight codes. -/
theorem iblk3_eq (t : Fin cfg0.N) : iblk m c 3 t = m ((c : Thread nD τ).loc main_arg2) := by
  funext y
  blk_ext [iblk, V, idx t]

/-- The dequantised weights. -/
def weights : Vec Ideal S11x256x1280 .bf16 :=
  wmat (m ((c : Thread nD τ).loc main_arg3)) (m ((c : Thread nD τ).loc main_arg2))

/-- The dequantised activations of point `t`. -/
def acts (t : Fin cfg0.N) : Vec Ideal S1024x1280 .bf16 := xmat (iblk m c 1 t) (iblk m c 2 t)

/-- The first point leaves the dequantised weights in the scratch. -/
theorem scratch_A (t : Fin cfg0.N) (h : t.val % 12 = 0) : (outsAt0 m c t.val t.isLt).2.2 = weights m c := by
  rw [outsAt0_A m c t h]
  dsimp only
  rw [sout0_A_0_eq, iblk0_eq, iblk3_eq]
  rfl

/-- Every later point leaves the scratch as it finds it. -/
theorem scratch_B (t : Fin cfg0.N) (h : ¬ t.val % 12 = 0) : (outsAt0 m c t.val t.isLt).2.2
    = (outsAt0 m c (t.val - 1) (Nat.lt_of_le_of_lt (Nat.sub_le _ _) t.isLt)).2.2 := by
  rw [outsAt0_B m c t h]
  dsimp only
  unfold sout0_B_0
  rfl

/-- After every point the scratch holds the dequantised weights. -/
theorem scratch_eq (n : ℕ) (hn : n < cfg0.N) : (outsAt0 m c n hn).2.2 = weights m c := by
  induction n with
  | zero => exact scratch_A m c ⟨0, hn⟩ rfl
  | succ n ih =>
    have hN : n + 1 < 12 := hn
    exact (scratch_B m c ⟨n + 1, hn⟩ (by show ¬ (n + 1) % 12 = 0; omega)).trans (ih _)

/-- After every point the block of codes is that of the point's rows. -/
theorem codes_eq (t : Fin cfg0.N) : (outsAt0 m c t.val t.isLt).1 = blockCodes (acts m c t) (weights m c) := by
  by_cases h : t.val % 12 = 0
  · rw [outsAt0_A m c t h]
    dsimp only
    rw [out0_A_4_eq, iblk0_eq, iblk3_eq]
    rfl
  · rw [outsAt0_B m c t h]
    dsimp only
    rw [out0_B_4_eq, scratch_eq]
    rfl

/-- After every point the block of scales is that of the point's rows. -/
theorem scales_eq (t : Fin cfg0.N) : (outsAt0 m c t.val t.isLt).2.1 = blockScales (acts m c t) (weights m c) := by
  by_cases h : t.val % 12 = 0
  · rw [outsAt0_A m c t h]
    dsimp only
    rw [out0_A_5_eq, iblk0_eq, iblk3_eq]
    rfl
  · rw [outsAt0_B m c t h]
    dsimp only
    rw [out0_B_5_eq, scratch_eq]
    rfl

/-- The codes of a block, tile by tile: the tile of column `n` is `n / 128`. -/
theorem blockCodes_apply (X : Vec Ideal S1024x1280 .bf16) (W : Vec Ideal S11x256x1280 .bf16) (r : Fin 1024) (n : Fin 1408) :
    blockCodes X W (ix2 r n) = tileCodes X (tileOf W ⟨n.val / 128, by omega⟩) (ix2 r ⟨n.val % 128, by omega⟩) := by
  unfold blockCodes pieces4
  refine View.canon_ofFn_unit_eq_of_forall (S := S1024x1408) off4 S1024x128.size inb4 _ _ _ ?_ ?_
  · refine ⟨⟨10 - n.val / 128, by omega⟩, fun a => ?_⟩
    match a with
    | 0 => exact ⟨Nat.zero_le _, by show r.val < 0 + 1024; omega⟩
    | 1 => exact ⟨by show 128 * (10 - (10 - n.val / 128)) ≤ n.val; omega, by show n.val < 128 * (10 - (10 - n.val / 128)) + 128; omega⟩
  · intro k x hx
    have h0 : r.val = 0 + (x 0).val := hx 0
    have h1 : n.val = 128 * (10 - k.val) + (x 1).val := hx 1
    have b1 : (x 1).val < 128 := (x 1).isLt
    have hk : (⟨10 - k.val, by omega⟩ : Fin 11) = ⟨n.val / 128, by omega⟩ := Fin.ext (by show 10 - k.val = n.val / 128; omega)
    rw [hk]
    exact congrArg _ (eq_ix2 x _ _ (by omega) (by show (x 1).val = n.val % 128; omega))

/-- The scales of a block, one column to a tile. -/
theorem blockScales_apply (X : Vec Ideal S1024x1280 .bf16) (W : Vec Ideal S11x256x1280 .bf16) (r : Fin 1024) (j : Fin 11) :
    blockScales X W (ix2 r j) = tileScale X (tileOf W j) (ix2 r 0) := by
  unfold blockScales pieces5
  refine View.canon_ofFn_unit_eq_of_forall (S := S1024x11) off5 S1024x1.size inb5 _ _ _ ?_ ?_
  · refine ⟨⟨10 - j.val, by omega⟩, fun a => ?_⟩
    match a with
    | 0 => exact ⟨Nat.zero_le _, by show r.val < 0 + 1024; omega⟩
    | 1 => exact ⟨by show 10 - (10 - j.val) ≤ j.val; omega, by show j.val < 10 - (10 - j.val) + 1; omega⟩
  · intro k x hx
    have h0 : r.val = 0 + (x 0).val := hx 0
    have h1 : j.val = 10 - k.val + (x 1).val := hx 1
    have b1 : (x 1).val < 1 := (x 1).isLt
    have hk : (⟨10 - k.val, by omega⟩ : Fin 11) = j := Fin.ext (by show 10 - k.val = j.val; omega)
    rw [hk]
    exact congrArg _ (eq_ix2 x _ _ (by omega) (by show (x 1).val = 0; omega))

end Cert.KernelIdeal.Val
-- ==== Proof.TileValue.lean ====
module

public import proofs.«01_k».proof.Proof.TileScale
public import proofs.«01_k».proof.Proof.Spec
public import proofs.«01_k».proof.Proof.Blocks
/-!
  The gated activations of a tile, their largest magnitudes, and with them the scales and codes, at an index.
-/
set_option maxRecDepth 16384

@[expose] public section
noncomputable section
open Idealize.ShloMosaic Idealize.ShloMosaic.TcCoe
namespace Cert.KernelIdeal.Val
open Cert.KernelIdeal Cert.KernelIdeal.Gen Cert.Patterns Cert.Spec

/-- An element of a tile of the weights. -/
theorem tileOf_apply (W : Vec Ideal S11x256x1280 .bf16) (j : Fin 11) (f : Fin 256) (k : Fin 1280) :
    tileOf W j (ix3 0 f k) = W (ix3 j f k) := by
  unfold tileOf
  exact congrArg W (eq_ix3 _ j f k (by show j.val + 1 * 0 = j.val; omega) (by show 0 + 1 * f.val = f.val; omega) (by show 0 + 1 * k.val = k.val; omega))

/-- The gated activations of a tile: gate rows come first, up rows 128 further. -/
theorem tileH_apply (X : Vec Ideal S1024x1280 .bf16) (w : Vec Ideal S1x256x1280 .bf16) (r : Fin 1024) (l : Fin 128) :
    tileH X w (ix2 r l) = glu (fun k => X (ix2 r k)) (fun k => w (ix3 0 ⟨l.val, by omega⟩ k)) (fun k => w (ix3 0 ⟨128 + l.val, by omega⟩ k)) := by
  unfold tileH
  pointwise [k0_pay275]
  rfl

/-- The largest magnitude of a row of a tile. -/
theorem rowMax_apply (h : FVec Ideal S1024x128 .f32) (r : Fin 1024) : rowMax h (ix2 r 0) = largest fun l => h (ix2 r l) := by
  pointwise [rowMax]
  rfl

/-- The scale of a row of a tile. -/
theorem tileScale_apply (X : Vec Ideal S1024x1280 .bf16) (w : Vec Ideal S1x256x1280 .bf16) (r : Fin 1024) :
    tileScale X w (ix2 r 0) = scaleOf (largest fun l => tileH X w (ix2 r l)) := by
  show Ideal.ofBits .f32 (scaleBits (rowMax (tileH X w)) (ix2 r 0)) = _
  rw [scaleBits_apply, rowMax_apply]
  rfl

/-- A code from a gated activation and the pattern of the scale. -/
theorem codes_of_bits (h : FVec Ideal S1024x128 .f32) (s : IVec S1024x1 32) (lo hi : Ideal .f32) (r : Fin 1024) (l : Fin 128) :
    truncf .fp8e4m3 (minimumf (broadcast S1024x128 hi) (maximumf (broadcast S1024x128 lo)
      (mulf h (broadcastTo S1024x128 (bitcastToFloat .f32 (subi (broadcast S1024x1 2130706432#32) s) : FVec Ideal S1024x1 .f32) broadcasts_S1024x1_S1024x128))))
      bitsLt_fp8e4m3_f32 (ix2 r l)
    = min (hi : EReal) (max lo (h (ix2 r l) * Ideal.ofBits .f32 (2130706432#32 - s (ix2 r 0)))) := by
  pointwise
  rfl

/-- The code in a row and column of a tile. -/
theorem tileCodes_apply (X : Vec Ideal S1024x1280 .bf16) (w : Vec Ideal S1x256x1280 .bf16) (r : Fin 1024) (l : Fin 128) :
    tileCodes X w (ix2 r l) = codeOf (largest fun l => tileH X w (ix2 r l)) (tileH X w (ix2 r l)) := by
  refine (codes_of_bits (tileH X w) (scaleBits (rowMax (tileH X w))) _ _ r l).trans ?_
  have hb := scalePat_le (pat_le (rowMax (tileH X w) (ix2 r 0)))
  rw [scaleBits_apply, ofNat_sub _ hb, rowMax_apply]
  rfl

end Cert.KernelIdeal.Val
-- ==== Proof.RefValue.lean ====
module

public import proofs.«01_k».proof.Proof.Gen.ReferenceIdeal.Value
public import proofs.«01_k».proof.Proof.Spec
public import proofs.«01_k».proof.Proof.Buffers
public import Idealize.ShloMosaic.Lib.Pointwise
/-!
  The reference's scales and codes at an index.
-/
set_option maxRecDepth 16384

@[expose] public section
noncomputable section
open Idealize.ShloMosaic Idealize.ShloMosaic.TcCoe Idealize.SL.Sem
namespace Cert.ReferenceIdeal.Val
open Cert.ReferenceIdeal Cert.ReferenceIdeal.Gen Cert.Patterns Cert.Spec
open Cert.KernelIdeal.Val (eq_ix2 eq_ix3)
variable (P0 : Vec Ideal S12288x10 .f32) (P1 : Vec Ideal S12288x1280 .fp8e4m3) (P2 : Vec Ideal S22x10 .f32) (P3 : Vec Ideal S2816x1280 .fp8e4m3)

/-- The powers of two the reference considers, as a vector. -/
def powers : FVec Ideal S1x1x247 .f32 :=
  exp2 (sitofp .f32 (subi (iota .tc S1x1x247 32 [2] iota_S1x1x247_d2_w32) (broadcast S1x1x247 126#32)))

/-- The candidates for the scale, from the largest magnitudes, the powers and the two constants. -/
def cands (A : FVec Ideal S12288x11x1 .f32) (v : FVec Ideal S1x1x247 .f32) (c1 c2 : Ideal .f32) : FVec Ideal S12288x11x247 .f32 :=
  select (cmpf .olt (broadcastTo S12288x11x247 A broadcasts_S12288x11x1_S12288x11x247)
      (broadcastTo S12288x11x247 (mulf (broadcast S1x1x247 c1) v) broadcasts_S1x1x247_S12288x11x247))
    (broadcastTo S12288x11x247 (shapeCast S1x1x247 v shapeCasts_S1x1x247_S1x1x247) broadcasts_S1x1x247_S12288x11x247)
    (broadcast S12288x11x247 c2)

/-- The candidates for the scale, with the constants set apart. -/
theorem pay6_eq : k0_pay6 P0 P1 P2 P3
    = cands (k0_pay5 P0 P1 P2 P3) powers (Scalar.ofBits .f32 0x43DFFFFF#32) (Scalar.ofBits .f32 0x7B800000#32) := rfl

/-- A candidate for the scale: the power where its product with the bound exceeds the largest magnitude, else the last power. -/
theorem cands_apply (A : FVec Ideal S12288x11x1 .f32) (v : FVec Ideal S1x1x247 .f32) (c1 c2 : Ideal .f32) (r : Fin 12288) (j : Fin 11) (l : Fin 247) :
    cands A v c1 c2 (ix3 r j l) = if (A (ix3 r j 0) : EReal) < c1 * v (ix3 0 0 l) then v (ix3 0 0 l) else c2 := by
  pointwise [cands]

/-- The exponents run from `-126` upwards. -/
theorem shifted : ∀ l : Fin 247, (BitVec.ofNat 32 l.val - 126#32).toInt = (l.val : ℤ) - 126 := by decide +kernel

/-- The powers of two the reference considers. -/
theorem powers_apply (l : Fin 247) : powers (ix3 0 0 l) = pw l.val := by
  have h : powers (ix3 0 0 l) = Ideal.exp2 ((((BitVec.ofNat 32 l.val - 126#32).toInt : ℤ) : ℝ) : EReal) := by
    pointwise [powers]
    rfl
  have e : (BitVec.ofNat 32 l.val - 126#32).toInt = (l.val : ℤ) - 126 := by
    exact shifted l
  rw [h, e]
  show ((Real.rpow 2 (((l.val : ℤ) - 126 : ℤ) : ℝ) : ℝ) : EReal) = _
  unfold pw
  congr 1
  exact Real.rpow_intCast 2 _

/-- The reference's gated activations. -/
theorem pay4_apply (r : Fin 12288) (j : Fin 11) (l : Fin 128) : k0_pay4 P0 P1 P2 P3 (ix3 r j l)
    = group (fun k => P1 (ix2 r k)) (fun g => P0 (ix2 r g)) (fun f k => P3 (ix2 f k)) (fun f g => P2 (ix2 f g)) j l := by
  pointwise [k0_pay4]
  rfl

/-- The largest magnitude of a group of a row. -/
theorem max_apply (h : FVec Ideal S12288x11x128 .f32) (r : Fin 12288) (j : Fin 11) :
    multiReduction .maximumf [2] S12288x11 (absf h) 0xFF800000#32 reduces_S12288x11x128_S12288x11 (.inl rfl) rfl (ix2 r j)
      = largest fun l => h (ix3 r j l) := by
  pointwise
  rfl

/-- The largest magnitude of a group of a row. -/
theorem pay5_apply (r : Fin 12288) (j : Fin 11) : k0_pay5 P0 P1 P2 P3 (ix3 r j 0) = largest fun l => k0_pay4 P0 P1 P2 P3 (ix3 r j l) := by
  refine Eq.trans ?_ (max_apply _ r j)
  unfold k0_pay5
  generalize multiReduction .maximumf [2] S12288x11 (absf (k0_pay4 P0 P1 P2 P3)) 0xFF800000#32 reduces_S12288x11x128_S12288x11 (.inl rfl) rfl = v
  pointwise

/-- The least of the candidates of a group of a row. -/
theorem min_fold (h : FVec Ideal S12288x11x247 .f32) (r : Fin 12288) (j : Fin 11) :
    multiReduction .minimumf [2] S12288x11 h 0x7F800000#32 reduces_S12288x11x247_S12288x11 (.inl rfl) rfl (ix2 r j)
      = (Finset.univ : Finset (Fin 247)).fold min (Ideal.ofBits .f32 0x7F800000#32) fun l => h (ix3 r j l) := by
  pointwise

/-- The least candidate of a group of a row. -/
theorem min_apply (r : Fin 12288) (j : Fin 11) :
    multiReduction .minimumf [2] S12288x11 (k0_pay6 P0 P1 P2 P3) 0x7F800000#32 reduces_S12288x11x247_S12288x11 (.inl rfl) rfl (ix2 r j)
      = (Finset.univ : Finset (Fin 247)).fold min ⊤ (cand (largest fun l => k0_pay4 P0 P1 P2 P3 (ix3 r j l))) := by
  rw [min_fold, pay6_eq, show Ideal.ofBits .f32 0x7F800000#32 = ⊤ from val_inf]
  refine Finset.fold_congr fun l _ => ?_
  rw [cands_apply, powers_apply, pay5_apply]
  rfl

/-- One scale from the largest magnitude, the two constants and the least candidate. -/
def scaleAt (c1 c2 a b : Ideal .f32) : Ideal .f32 := Scalar.select (FloatOps.cmpf .olt a c1) c2 b

/-- The choice between the least candidate and one. -/
theorem scaleAt_eq (c1 c2 a b : EReal) : scaleAt c1 c2 a b = if a < c1 then c2 else b := by
  show (if BitVec.ofBool (decide (a < c1)) = 1#1 then c2 else b) = _
  by_cases h : a < c1
  · rw [if_pos h, if_pos (by simp [h])]
  · rw [if_neg h, if_neg (by simp [h])]

/-- The reference's scales. -/
theorem E5_apply (r : Fin 12288) (j : Fin 11) : Value.E5 P0 P1 P2 P3 (ix2 r j) = refScale (largest fun l => k0_pay4 P0 P1 P2 P3 (ix3 r j l)) :=
  (congrArg₂ (scaleAt (val 81788927) (val 1065353216))
    ((congrArg _ (eq_ix2 (Value.ix5_0 (ix2 r j)) r j rfl rfl)).trans (max_apply _ r j))
    ((congrArg _ (eq_ix2 (Value.ix5_1 (ix2 r j)) r j rfl rfl)).trans (min_apply P0 P1 P2 P3 r j))).trans (scaleAt_eq _ _ _ _)

/-- One code from a gated activation and a scale. -/
def codeAt (h s : Ideal .f32) : Ideal .fp8e4m3 :=
  FloatOps.truncf .fp8e4m3 bitsLt_fp8e4m3_f32 (FloatOps.minimumf (Scalar.ofBits .f32 0x43E00000#32)
    (FloatOps.maximumf (Scalar.ofBits .f32 0xC3E00000#32) (FloatOps.mulf h (FloatOps.divf (Scalar.ofBits .f32 0x3F800000#32) s))))

/-- The reference's codes. -/
theorem E4_apply (r : Fin 12288) (n : Fin 1408) (j : Fin 11) (l : Fin 128) (hj : n.val / 128 = j.val) (hl : n.val % 128 = l.val) :
    Value.E4 P0 P1 P2 P3 (ix2 r n) = refCode (largest fun l => k0_pay4 P0 P1 P2 P3 (ix3 r j l)) (k0_pay4 P0 P1 P2 P3 (ix3 r j l)) :=
  congrArg₂ codeAt (congrArg _ (eq_ix3 (Value.ix4_0 (ix2 r n)) r j l rfl hj hl))
    ((congrArg₂ (scaleAt (val 81788927) (val 1065353216))
      ((congrArg _ (eq_ix2 (Value.ix4_1 (ix2 r n)) r j rfl hj)).trans (max_apply _ r j))
      ((congrArg _ (eq_ix2 (Value.ix4_2 (ix2 r n)) r j rfl hj)).trans (min_apply P0 P1 P2 P3 r j))).trans (scaleAt_eq _ _ _ _))

end Cert.ReferenceIdeal.Val
-- ==== Proof.RefArrays.lean ====
module

public import proofs.«01_k».proof.Proof.RefValue
/-!
  The reference's two result arrays, as functions of its four arguments.
-/
set_option maxRecDepth 16384

@[expose] public section
noncomputable section
open Idealize.ShloMosaic Idealize.ShloMosaic.TcCoe Idealize.SL.Sem
open Idealize.ShloMosaic.Pipeline (Dat)
namespace Cert.ReferenceIdeal.Val
open Cert.ReferenceIdeal Cert.ReferenceIdeal.Gen Cert.Patterns Cert.Spec
open Cert.KernelIdeal.Val (eq_ix2 eq_ix3)
section Whole
variable (X0 : Vec Ideal S12288x1280 .fp8e4m3) (X1 : Vec Ideal S12288x10 .f32) (X2 : Vec Ideal S2816x1280 .fp8e4m3) (X3 : Vec Ideal S22x10 .f32)

/-- The gated activations from the four operands. -/
def hval (r : Fin 12288) (j : Fin 11) (l : Fin 128) : EReal :=
  group (fun k => X0 (ix2 r k)) (fun g => X1 (ix2 r g)) (fun f k => X2 (ix2 f k)) (fun f g => X3 (ix2 f g)) j l

/-- The codes from the four operands. -/
def codesFn (r : Fin 12288) (n : Fin 1408) : EReal :=
  refCode (largest fun l => hval X0 X1 X2 X3 r ⟨n.val / 128, by omega⟩ l)
    (hval X0 X1 X2 X3 r ⟨n.val / 128, by omega⟩ ⟨n.val % 128, by omega⟩)

/-- The scales from the four operands. -/
def scalesFn (r : Fin 12288) (j : Fin 11) : EReal := refScale (largest fun l => hval X0 X1 X2 X3 r j l)

/-- A load of a whole array is the array. -/
theorem ld_whole {a b : Nat} {e : EltTy} (X : Vec Ideal ⟨2, ![a, b]⟩ e) (h) :
    View.ld X (Rect.unit (s := ⟨2, ![a, b]⟩) ![0, 0] (⟨2, ![a, b]⟩ : Shape).size h) = X := by
  funext y
  exact congrArg X ((eq_ix2 _ (y 0) (y 1) (by show 0 + 1 * (y 0).val = _; omega) (by show 0 + 1 * (y 1).val = _; omega)).trans
    (eq_ix2 y (y 0) (y 1) rfl rfl).symm)

/-- The codes that the reference's body stores, element by element. -/
theorem out4_apply (r : Fin 12288) (n : Fin 1408) : out0_4 X0 X1 X2 X3 (ix2 r n) = codesFn X0 X1 X2 X3 r n := by
  unfold_out out0_4
  rw [Value.canon4_eq, show View.ld X0 r0_1 = _ from ld_whole _ _, show View.ld X1 r0_0 = _ from ld_whole _ _,
    show View.ld X2 r0_3 = _ from ld_whole _ _, show View.ld X3 r0_2 = _ from ld_whole _ _,
    E4_apply _ _ _ _ r n ⟨n.val / 128, by omega⟩ ⟨n.val % 128, by omega⟩ rfl rfl]
  simp only [pay4_apply]
  rfl

/-- The scales that the reference's body stores, element by element. -/
theorem out5_apply (r : Fin 12288) (j : Fin 11) : out0_5 X0 X1 X2 X3 (ix2 r j) = scalesFn X0 X1 X2 X3 r j := by
  unfold_out out0_5
  rw [Value.canon5_eq, show View.ld X0 r0_1 = _ from ld_whole _ _, show View.ld X1 r0_0 = _ from ld_whole _ _,
    show View.ld X2 r0_3 = _ from ld_whole _ _, show View.ld X3 r0_2 = _ from ld_whole _ _, E5_apply]
  simp only [pay4_apply]
  rfl

end Whole

variable (m : (ℓ : Loc nD τ sig) → Buf (Elt Ideal) ℓ) (c : Dev nD)

/-- Every window is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The body sees all the activation codes. -/
theorem iblk0_eq (t : Fin cfg0.N) : iblk m c 0 t = (V m c main_v0 : Vec Ideal S12288x1280 .fp8e4m3) := by
  funext y
  blk_simp [iblk]
  generalize V m c main_v0 = Z
  blk_ext [idx t]

/-- The body sees all the activation scales. -/
theorem iblk1_eq (t : Fin cfg0.N) : iblk m c 1 t = (V m c main_v1 : Vec Ideal S12288x10 .f32) := by
  funext y
  blk_simp [iblk]
  generalize V m c main_v1 = Z
  blk_ext [idx t]

/-- The body sees all the weight codes. -/
theorem iblk2_eq (t : Fin cfg0.N) : iblk m c 2 t = (m ((c : Thread nD τ).loc main_arg2) : Vec Ideal S2816x1280 .fp8e4m3) := by
  funext y
  blk_ext [iblk, V, idx t]

/-- The body sees all the weight scales. -/
theorem iblk3_eq (t : Fin cfg0.N) : iblk m c 3 t = (m ((c : Thread nD τ).loc main_arg3) : Vec Ideal S22x10 .f32) := by
  funext y
  blk_ext [iblk, V, idx t]

/-- The codes the reference leaves. -/
def codesArr : Vec Ideal S12288x1408 .fp8e4m3 := fun y =>
  codesFn (V m c main_v0) (V m c main_v1) (m ((c : Thread nD τ).loc main_arg2)) (m ((c : Thread nD τ).loc main_arg3)) (y 0) (y 1)

/-- The scales the reference leaves. -/
def scalesArr : Vec Ideal S12288x11 .f32 := fun y =>
  scalesFn (V m c main_v0) (V m c main_v1) (m ((c : Thread nD τ).loc main_arg2)) (m ((c : Thread nD τ).loc main_arg3)) (y 0) (y 1)

/-- The stored codes are `codesArr`. -/
theorem codes_at (t : Fin cfg0.N) : out0_4 (iblk m c 0 t) (iblk m c 1 t) (iblk m c 2 t) (iblk m c 3 t) = codesArr m c := by
  funext y
  rw [iblk0_eq, iblk1_eq, iblk2_eq, iblk3_eq]
  exact (congrArg _ (eq_ix2 (a := 12288) (b := 1408) y (y 0) (y 1) rfl rfl)).trans (out4_apply _ _ _ _ (y 0) (y 1))

/-- The stored scales are `scalesArr`. -/
theorem scales_at (t : Fin cfg0.N) : out0_5 (iblk m c 0 t) (iblk m c 1 t) (iblk m c 2 t) (iblk m c 3 t) = scalesArr m c := by
  funext y
  rw [iblk0_eq, iblk1_eq, iblk2_eq, iblk3_eq]
  exact (congrArg _ (eq_ix2 (a := 12288) (b := 11) y (y 0) (y 1) rfl rfl)).trans (out5_apply _ _ _ _ (y 0) (y 1))

/-- The reference leaves `codesArr` in its first result. -/
theorem codes_arr : (dats m 0 c).arrAt 4 cfg0.N = codesArr m c := by
  refine (dats m 0 c).arrAt_eq_of_covers 4 _ (by decide +kernel) fun t _ y => ?_
  blk_simp
  rw [after0_4, codes_at]
  generalize codesArr m c = Z
  blk_ext [idx t]

/-- The reference leaves `scalesArr` in its second result. -/
theorem scales_arr : (dats m 0 c).arrAt 5 cfg0.N = scalesArr m c := by
  refine (dats m 0 c).arrAt_eq_of_covers 5 _ (by decide +kernel) fun t _ y => ?_
  blk_simp
  rw [after0_5, scales_at]
  generalize scalesArr m c = Z
  blk_ext [idx t]

end Cert.ReferenceIdeal.Val
-- ==== Proof.Arrays.lean ====
module

public import proofs.«01_k».proof.Proof.TileValue
public import proofs.«01_k».proof.Proof.RefArrays
/-!
  The kernel's two result arrays, as the same functions of the operands as the reference's.
-/
set_option maxRecDepth 16384

@[expose] public section
noncomputable section
open Idealize.ShloMosaic Idealize.ShloMosaic.TcCoe Idealize.SL.Sem
open Idealize.ShloMosaic.Pipeline (Dat)
namespace Cert.KernelIdeal.Val
open Cert.KernelIdeal Cert.KernelIdeal.Gen Cert.Patterns Cert.Spec
open Cert.ReferenceIdeal.Val (hval codesFn scalesFn)
variable (m : (ℓ : Loc nD τ sig) → Buf (Elt Ideal) ℓ) (c : Dev nD)

/-- A row of the whole arrays from a point and a row of its block. -/
def rowOf (t : Fin cfg0.N) (r : Fin 1024) : Fin 12288 := ⟨t.val * 1024 + r.val, by have h : t.val < 12 := t.isLt; omega⟩

/-- A row of the block of activation codes at a point is a row of the whole array. -/
theorem iblk1_apply (t : Fin cfg0.N) (r : Fin 1024) (k : Fin 1280) :
    (iblk m c 1 t : Vec Ideal S1024x1280 .fp8e4m3) (ix2 r k) = (V m c main_v0 : Vec Ideal S12288x1280 .fp8e4m3) (ix2 (rowOf t r) k) := by
  blk_simp [iblk]
  generalize V m c main_v0 = Z
  unfold rowOf
  blk_ext [idx t]

/-- A row of the block of activation scales at a point is a row of the whole array. -/
theorem iblk2_apply (t : Fin cfg0.N) (r : Fin 1024) (g : Fin 10) :
    (iblk m c 2 t : Vec Ideal S1024x10 .f32) (ix2 r g) = (V m c main_v1 : Vec Ideal S12288x10 .f32) (ix2 (rowOf t r) g) := by
  blk_simp [iblk]
  generalize V m c main_v1 = Z
  unfold rowOf
  blk_ext [idx t]

/-- The dequantised activations of a point are those of its rows. -/
theorem acts_apply (t : Fin cfg0.N) (r : Fin 1024) (k : Fin 1280) : acts m c t (ix2 r k)
    = act (fun k => (V m c main_v0 : Vec Ideal S12288x1280 .fp8e4m3) (ix2 (rowOf t r) k))
        (fun g => (V m c main_v1 : Vec Ideal S12288x10 .f32) (ix2 (rowOf t r) g)) k := by
  show xval (iblk m c 1 t) (iblk m c 2 t) r k = _
  unfold xval
  rw [iblk1_apply, iblk2_apply]
  rfl

/-- The dequantised weights of a tile are rows of the dequantised weight array. -/
theorem wval_eq (x0 : Vec Ideal S22x10 .f32) (x3 : Vec Ideal S2816x1280 .fp8e4m3) (j : Fin 11) (f : Fin 256) (k : Fin 1280) (n : Fin 2816)
    (hn : 128 * (j.val + 11 * (f.val / 128)) + f.val % 128 = n.val) :
    wval x0 x3 j f k = wt (fun f k => x3 (ix2 f k)) (fun f g => x0 (ix2 f g)) n k := by
  have e1 : wRow j f = n := Fin.ext hn
  have e2 : sRow j f = ⟨n.val / 128, by omega⟩ := Fin.ext (by show j.val + 11 * (f.val / 128) = n.val / 128; omega)
  unfold wval
  rw [e1, e2]
  rfl

/-- The gated activations of a tile are those of the reference. -/
theorem tileH_eq (t : Fin cfg0.N) (r : Fin 1024) (j : Fin 11) (l : Fin 128) : tileH (acts m c t) (tileOf (weights m c) j) (ix2 r l)
    = hval (V m c main_v0) (V m c main_v1) (m ((c : Thread nD τ).loc main_arg2)) (m ((c : Thread nD τ).loc main_arg3)) (rowOf t r) j l := by
  rw [tileH_apply]
  unfold hval group
  refine congr (congrArg₂ glu (funext fun k => acts_apply m c t r k) (funext fun k => ?_)) (funext fun k => ?_)
  · rw [tileOf_apply]
    exact wval_eq _ _ j _ k _ (by show 128 * (j.val + 11 * (l.val / 128)) + l.val % 128 = j.val * 128 + l.val; omega)
  · rw [tileOf_apply]
    exact wval_eq _ _ j _ k _ (by show 128 * (j.val + 11 * ((128 + l.val) / 128)) + (128 + l.val) % 128 = 1408 + (j.val * 128 + l.val); omega)

/-- The codes of a point, at a row and a column, are the reference's codes at that row of the whole array. -/
theorem codes_at (t : Fin cfg0.N) (r : Fin 1024) (n : Fin 1408) : blockCodes (acts m c t) (weights m c) (ix2 r n)
    = codesFn (V m c main_v0) (V m c main_v1) (m ((c : Thread nD τ).loc main_arg2)) (m ((c : Thread nD τ).loc main_arg3)) (rowOf t r) n := by
  rw [blockCodes_apply, tileCodes_apply]
  simp only [tileH_eq]
  unfold codesFn
  rw [refCode_eq _ _ (largest_nonneg _)]

/-- The scales of a point, at a row and a group, are the reference's scales at that row of the whole array. -/
theorem scales_at (t : Fin cfg0.N) (r : Fin 1024) (j : Fin 11) : blockScales (acts m c t) (weights m c) (ix2 r j)
    = scalesFn (V m c main_v0) (V m c main_v1) (m ((c : Thread nD τ).loc main_arg2)) (m ((c : Thread nD τ).loc main_arg3)) (rowOf t r) j := by
  rw [blockScales_apply, tileScale_apply]
  simp only [tileH_eq]
  unfold scalesFn
  rw [refScale_eq _ (largest_nonneg _)]

/-- The codes the kernel leaves. -/
def codesArr : Vec Ideal S12288x1408 .fp8e4m3 := fun y =>
  codesFn (V m c main_v0) (V m c main_v1) (m ((c : Thread nD τ).loc main_arg2)) (m ((c : Thread nD τ).loc main_arg3)) (y 0) (y 1)

/-- The scales the kernel leaves. -/
def scalesArr : Vec Ideal S12288x11 .f32 := fun y =>
  scalesFn (V m c main_v0) (V m c main_v1) (m ((c : Thread nD τ).loc main_arg2)) (m ((c : Thread nD τ).loc main_arg3)) (y 0) (y 1)

/-- The codes of a point are a block of rows of `codesArr`. -/
theorem codes_blk (t : Fin cfg0.N) (y : S1024x1408.Idx) :
    blockCodes (acts m c t) (weights m c) y = codesArr m c (ix2 (rowOf t (y 0)) (y 1)) :=
  (congrArg _ (eq_ix2 (a := 1024) (b := 1408) y (y 0) (y 1) rfl rfl)).trans (codes_at m c t (y 0) (y 1))

/-- The scales of a point are a block of rows of `scalesArr`. -/
theorem scales_blk (t : Fin cfg0.N) (y : S1024x11.Idx) :
    blockScales (acts m c t) (weights m c) y = scalesArr m c (ix2 (rowOf t (y 0)) (y 1)) :=
  (congrArg _ (eq_ix2 (a := 1024) (b := 11) y (y 0) (y 1) rfl rfl)).trans (scales_at m c t (y 0) (y 1))

/-- The kernel leaves `codesArr` in its first result. -/
theorem codes_arr : (dats m 0 c).arrAt 4 cfg0.N = codesArr m c := by
  refine (dats m 0 c).arrAt_eq_of_covers 4 _ (by decide +kernel) fun t _ y => ?_
  blk_simp
  rw [after0_4, codes_eq]
  refine (codes_blk m c t y).trans ?_
  generalize codesArr m c = Z
  unfold rowOf
  blk_ext [idx t]

/-- The kernel leaves `scalesArr` in its second result. -/
theorem scales_arr : (dats m 0 c).arrAt 5 cfg0.N = scalesArr m c := by
  refine (dats m 0 c).arrAt_eq_of_covers 5 _ (by decide +kernel) fun t _ y => ?_
  blk_simp
  rw [after0_5, scales_eq]
  refine (scales_blk m c t y).trans ?_
  generalize scalesArr m c = Z
  unfold rowOf
  blk_ext [idx t]

end Cert.KernelIdeal.Val
-- ==== Proof.Equal.lean ====
module

public import proofs.«01_k».proof.Defs
public import proofs.«01_k».proof.Proof.Arrays
public import Idealize.ShloMosaic.Lib.Claim
/-!
  The two programs side by side: from the same operands they leave the same codes and the same scales.
-/
set_option maxRecDepth 16384

@[expose] public section
noncomputable section
open Idealize.ShloMosaic Idealize.ShloMosaic.TcCoe Idealize.SL.Sem
namespace Cert.Proof.Equal
open Cert.ReferenceIdeal.Val (codesFn scalesFn)

/-- The activation codes with batch and sequence folded into rows. -/
def rowsX (x : Vec Ideal Cert.KernelIdeal.S4x3072x1280 .fp8e4m3) : Vec Ideal Cert.KernelIdeal.S12288x1280 .fp8e4m3 :=
  shapeCast Cert.KernelIdeal.S12288x1280 x (by decide)

/-- The activation scales with batch and sequence folded into rows. -/
def rowsS (x : Vec Ideal Cert.KernelIdeal.S4x3072x10 .f32) : Vec Ideal Cert.KernelIdeal.S12288x10 .f32 :=
  shapeCast Cert.KernelIdeal.S12288x10 x (by decide)

section
open Cert.KernelIdeal Cert.KernelIdeal.Gen
variable (m : (ℓ : Loc nD τ sig) → Buf (Elt Ideal) ℓ) (c : Dev nD)
/-- What the kernel's grid reads as activation codes. -/
theorem kernel_x : V m c main_v0 = rowsX (m ((c : Thread nD τ).loc main_arg0)) := by entry_read; rfl
/-- What the kernel's grid reads as activation scales. -/
theorem kernel_s : V m c main_v1 = rowsS (m ((c : Thread nD τ).loc main_arg1)) := by entry_read; rfl
end
section
open Cert.ReferenceIdeal Cert.ReferenceIdeal.Gen
variable (m : (ℓ : Loc nD τ sig) → Buf (Elt Ideal) ℓ) (c : Dev nD)
/-- What the reference reads as activation codes. -/
theorem reference_x : V m c main_v0 = rowsX (m ((c : Thread nD τ).loc main_arg0)) := by entry_read; rfl
/-- What the reference reads as activation scales. -/
theorem reference_s : V m c main_v1 = rowsS (m ((c : Thread nD τ).loc main_arg1)) := by entry_read; rfl
end

/-- The codes both programs leave, as a function of the four operands. -/
def codesOf (x : Vec Ideal Cert.KernelIdeal.S4x3072x1280 .fp8e4m3) (xs : Vec Ideal Cert.KernelIdeal.S4x3072x10 .f32)
    (w : Vec Ideal Cert.KernelIdeal.S2816x1280 .fp8e4m3) (ws : Vec Ideal Cert.KernelIdeal.S22x10 .f32) :
    Vec Ideal Cert.KernelIdeal.S12288x1408 .fp8e4m3 := fun y => codesFn (rowsX x) (rowsS xs) w ws (y 0) (y 1)

/-- The scales both programs leave, as a function of the four operands. -/
def scalesOf (x : Vec Ideal Cert.KernelIdeal.S4x3072x1280 .fp8e4m3) (xs : Vec Ideal Cert.KernelIdeal.S4x3072x10 .f32)
    (w : Vec Ideal Cert.KernelIdeal.S2816x1280 .fp8e4m3) (ws : Vec Ideal Cert.KernelIdeal.S22x10 .f32) :
    Vec Ideal Cert.KernelIdeal.S12288x11 .f32 := fun y => scalesFn (rowsX x) (rowsS xs) w ws (y 0) (y 1)

section
open Cert.KernelIdeal Cert.KernelIdeal.Gen
variable (m : (ℓ : Loc nD τ sig) → Buf (Elt Ideal) ℓ) (c : Dev nD)
/-- The kernel's codes from its arguments. -/
theorem kernel_codes : (dats m 0 c).arrAt 4 cfg0.N = codesOf (m ((c : Thread nD τ).loc main_arg0)) (m ((c : Thread nD τ).loc main_arg1))
    (m ((c : Thread nD τ).loc main_arg2)) (m ((c : Thread nD τ).loc main_arg3)) := by
  rw [Cert.KernelIdeal.Val.codes_arr]
  unfold Cert.KernelIdeal.Val.codesArr codesOf
  rw [kernel_x, kernel_s]
/-- The kernel's scales from its arguments. -/
theorem kernel_scales : (dats m 0 c).arrAt 5 cfg0.N = scalesOf (m ((c : Thread nD τ).loc main_arg0)) (m ((c : Thread nD τ).loc main_arg1))
    (m ((c : Thread nD τ).loc main_arg2)) (m ((c : Thread nD τ).loc main_arg3)) := by
  rw [Cert.KernelIdeal.Val.scales_arr]
  unfold Cert.KernelIdeal.Val.scalesArr scalesOf
  rw [kernel_x, kernel_s]
end
section
open Cert.ReferenceIdeal Cert.ReferenceIdeal.Gen
variable (m : (ℓ : Loc nD τ sig) → Buf (Elt Ideal) ℓ) (c : Dev nD)
/-- The reference's codes from its arguments. -/
theorem reference_codes : (dats m 0 c).arrAt 4 cfg0.N = codesOf (m ((c : Thread nD τ).loc main_arg0)) (m ((c : Thread nD τ).loc main_arg1))
    (m ((c : Thread nD τ).loc main_arg2)) (m ((c : Thread nD τ).loc main_arg3)) := by
  rw [Cert.ReferenceIdeal.Val.codes_arr]
  unfold Cert.ReferenceIdeal.Val.codesArr codesOf
  rw [reference_x, reference_s]
/-- The reference's scales from its arguments. -/
theorem reference_scales : (dats m 0 c).arrAt 5 cfg0.N = scalesOf (m ((c : Thread nD τ).loc main_arg0)) (m ((c : Thread nD τ).loc main_arg1))
    (m ((c : Thread nD τ).loc main_arg2)) (m ((c : Thread nD τ).loc main_arg3)) := by
  rw [Cert.ReferenceIdeal.Val.scales_arr]
  unfold Cert.ReferenceIdeal.Val.scalesArr scalesOf
  rw [reference_x, reference_s]
end

/-- In exact arithmetic, from equal arguments, the kernel and the reference leave equal codes and equal scales,
    and keep their arguments. -/
theorem algebraic : Cert.algebraic_KernelIdeal_ReferenceIdeal := by
  intro m g m' g' _ hag
  refine ⟨fun c => codesOf (m (c.tc.loc Cert.KernelIdeal.main_arg0)) (m (c.tc.loc Cert.KernelIdeal.main_arg1))
      (m (c.tc.loc Cert.KernelIdeal.main_arg2)) (m (c.tc.loc Cert.KernelIdeal.main_arg3)),
    fun c => scalesOf (m (c.tc.loc Cert.KernelIdeal.main_arg0)) (m (c.tc.loc Cert.KernelIdeal.main_arg1))
      (m (c.tc.loc Cert.KernelIdeal.main_arg2)) (m (c.tc.loc Cert.KernelIdeal.main_arg3)),
    (θ_run Cert.KernelIdeal.defs _ _).mono (fun r h c => ?_) (Cert.KernelIdeal.Value.run_blocks m g),
    (θ_run Cert.ReferenceIdeal.defs _ _).mono (fun r h c => ?_) (Cert.ReferenceIdeal.Value.run_blocks m' g')⟩
  · exact ⟨(h c).1.trans (kernel_codes m c), (h c).2.1.trans (kernel_scales m c), (h c).2.2⟩
  · obtain ⟨e0, e1, e2, e3⟩ := hag c
    refine ⟨(h c).1.trans ((reference_codes m' c).trans ?_), (h c).2.1.trans ((reference_scales m' c).trans ?_), (h c).2.2⟩
    · rw [e0, e1, e2, e3]
    · rw [e0, e1, e2, e3]

end Cert.Proof.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate: the three programs run to their end and keep their arguments, the kernel at the
    exact instance is the kernel as printed, and in exact arithmetic it computes what the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Proof.Equal.algebraic⟩

end Cert.Proof

end
